-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_nonneg [hPre_finite_nonneg : Cert.Pre_finite_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_finite_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_nonneg [hPre_finite_nonneg : Cert.Pre_finite_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_nonneg [hKernelIdeal : Cert.KernelIdeal.Facts] [hPre_finite_nonneg : Cert.Pre_finite_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_nonneg [hReferenceIdeal : Cert.ReferenceIdeal.Facts] [hPre_finite_nonneg : Cert.Pre_finite_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_nonneg [hKernelIdeal : Cert.KernelIdeal.Facts] [hReferenceIdeal : Cert.ReferenceIdeal.Facts] [hPre_finite_nonneg : Cert.Pre_finite_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_nonneg : Cert.Pre_finite_nonneg.Facts),
    quiescent_Kernel (hKernel := hKernel)
    ∧ quiescent_KernelIdeal (hKernelIdeal := hKernelIdeal)
    ∧ quiescent_KernelIdeal_pre_finite_nonneg (hKernelIdeal := hKernelIdeal) (hPre_finite_nonneg := hPre_finite_nonneg)
    ∧ quiescent_ReferenceIdeal (hReferenceIdeal := hReferenceIdeal)
    ∧ quiescent_ReferenceIdeal_pre_finite_nonneg (hReferenceIdeal := hReferenceIdeal) (hPre_finite_nonneg := hPre_finite_nonneg)
    ∧ preserves_Kernel_KernelIdeal
    ∧ algebraic_KernelIdeal_ReferenceIdeal_pre_finite_nonneg (hKernelIdeal := hKernelIdeal) (hReferenceIdeal := hReferenceIdeal) (hPre_finite_nonneg := hPre_finite_nonneg)
-- ==== Pre_finite_nonneg.lean ====
abbrev S2x128x4096x1 : Shape := ⟨4, ![2, 128, 4096, 1]⟩
abbrev S256x256 : Shape := ⟨2, ![256, 256]⟩
abbrev S256 : Shape := ⟨1, ![256]⟩
abbrev S_ : Shape := ⟨0, ![]⟩
abbrev S256x128 : Shape := ⟨2, ![256, 128]⟩

class Facts : Prop where
  bcast_S_S2x128x4096x1 : S_.BroadcastsInDim S2x128x4096x1 (![] : Fin 0 → Fin S2x128x4096x1.rank)
  reducesTo_S2x128x4096x1_S_d0_1_2_3 : S2x128x4096x1.ReducesTo [0, 1, 2, 3] S_
  h_S_ : 0 < S_.numel
  slices_S256x256_S256x128_0_128 : S256x256.Slices ![0, 128] S256x128
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S2x128x4096x1 .f32) (main_arg1 : FVec F S256x256 .f32) (main_arg2 : FVec F S256 .f32) (main_arg3 : FVec F S256 .f32) (main_arg4 : FVec F S256 .f32) : IVec S_ 1 :=
  let main_v0 : FVec F S2x128x4096x1 .f32 := Host.absf main_arg0
  let main_cst : FVec F S_ .f32 := constant S_ .f32 0x7F800000#32
  let main_v1 : FVec F S2x128x4096x1 .f32 := broadcastInDim S2x128x4096x1 ![] bcast_S_S2x128x4096x1 main_cst
  let main_v2 : IVec S2x128x4096x1 1 := cmpf .olt main_v0 main_v1
  let main_c : IVec S_ 1 := constantI S_ 1 1#1
  let main_v3 : IVec S_ 1 := (fun x v => Host.reduce IntOp.andi x v reducesTo_S2x128x4096x1_S_d0_1_2_3 h_S_) main_v2 main_c
  let main_v4 : FVec F S256x128 .f32 := (extractStridedSlice S256x128 ![0, 128] · slices_S256x256_S256x128_0_128) main_arg1
  let main_v5 : FVec F S256x128 .f32 := Host.absf main_v4
  let main_cst_0 : FVec F S_ .f32 := constant S_ .f32 0x7F800000#32
  let main_v6 : FVec F S256x128 .f32 := broadcastInDim S256x128 ![] bcast_S_S256x128 main_cst_0
  let main_v7 : IVec S256x128 1 := cmpf .olt main_v5 main_v6
  let main_c_1 : IVec S_ 1 := constantI S_ 1 1#1
  let main_v8 : IVec S_ 1 := (fun x v => Host.reduce IntOp.andi x v reducesTo_S256x128_S_d0_1 h_S_) main_v7 main_c_1
  let main_v9 : IVec S_ 1 := andi main_v3 main_v8
  let main_cst_2 : FVec F S_ .f32 := constant S_ .f32 0x00000000#32
  let main_v10 : FVec F S256 .f32 := broadcastInDim S256 ![] bcast_S_S256 main_cst_2
  let main_v11 : IVec S256 1 := cmpf .oge main_arg3 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v9 main_v12
  main_v13
-- ==== Kernel.lean ====
abbrev S2x128x4096x1 : Shape := ⟨4, ![2, 128, 4096, 1]⟩
abbrev S256x256 : Shape := ⟨2, ![256, 256]⟩
abbrev S256 : Shape := ⟨1, ![256]⟩
abbrev S2x128x4096 : Shape := ⟨3, ![2, 128, 4096]⟩
abbrev S2x4096x128 : Shape := ⟨3, ![2, 4096, 128]⟩
abbrev S256x128 : Shape := ⟨2, ![256, 128]⟩
abbrev S2x4096x256 : Shape := ⟨3, ![2, 4096, 256]⟩
abbrev S1x1024x128 : Shape := ⟨3, ![1, 1024, 128]⟩
abbrev S1x1024x256 : Shape := ⟨3, ![1, 1024, 256]⟩
abbrev S1024x128 : Shape := ⟨2, ![1024, 128]⟩
abbrev S1024x256 : Shape := ⟨2, ![1024, 256]⟩
abbrev S1x256 : Shape := ⟨2, ![1, 256]⟩
abbrev S2x32x20x128 : Shape := ⟨4, ![2, 32, 20, 128]⟩
abbrev S1x4096x128 : Shape := ⟨3, ![1, 4096, 128]⟩
abbrev S1x128x128 : Shape := ⟨3, ![1, 128, 128]⟩
abbrev S1x1x20x128 : Shape := ⟨4, ![1, 1, 20, 128]⟩
abbrev S320x128 : Shape := ⟨2, ![320, 128]⟩
abbrev S128x128 : Shape := ⟨2, ![128, 128]⟩
abbrev S128 : Shape := ⟨1, ![128]⟩
abbrev S1x256x128 : Shape := ⟨3, ![1, 256, 128]⟩
abbrev S1x128 : Shape := ⟨2, ![1, 128]⟩
abbrev S256x1 : Shape := ⟨2, ![256, 1]⟩
abbrev S1x1x1x128 : Shape := ⟨4, ![1, 1, 1, 128]⟩
abbrev S2x32x128x20 : Shape := ⟨4, ![2, 32, 128, 20]⟩
abbrev S2x4096x20 : Shape := ⟨3, ![2, 4096, 20]⟩
abbrev S_ : Shape := ⟨0, ![]⟩
abbrev S2x4096x20x1 : Shape := ⟨4, ![2, 4096, 20, 1]⟩
abbrev S2x4096x20x256 : Shape := ⟨4, ![2, 4096, 20, 256]⟩
abbrev S2x256x4096 : Shape := ⟨3, ![2, 256, 4096]⟩
abbrev S2x256x4096x1 : Shape := ⟨4, ![2, 256, 4096, 1]⟩

abbrev nBuf : Space → Nat
  | .hbm => 36
  | .vmem => 32
  | .smem => 0
  | _ => 0

abbrev bufTy : (tb : Table) → Fin (tcTables nBuf tb) → BufTy
  | .hbm, ⟨0, _⟩ => ⟨S2x128x4096x1, .f32⟩
  | .hbm, ⟨1, _⟩ => ⟨S256x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S2x128x4096, .f32⟩
  | .hbm, ⟨6, _⟩ => ⟨S2x4096x128, .f32⟩
  | .hbm, ⟨7, _⟩ => ⟨S256x128, .f32⟩
  | .hbm, ⟨8, _⟩ => ⟨S256x128, .f32⟩
  | .hbm, ⟨9, _⟩ => ⟨S256x128, .f32⟩
  | .hbm, ⟨10, _⟩ => ⟨S2x4096x256, .f32⟩
  | .hbm, ⟨11, _⟩ => ⟨S2x4096x256, .f32⟩
  | .hbm, ⟨12, _⟩ => ⟨S2x32x20x128, .i32⟩
  | .hbm, ⟨13, _⟩ => ⟨S2x32x128x20, .i32⟩
  | .hbm, ⟨14, _⟩ => ⟨S2x4096x20, .i32⟩
  | .hbm, ⟨15, _⟩ => ⟨S_, .i32⟩
  | .hbm, ⟨16, _⟩ => ⟨S2x4096x20, .i32⟩
  | .hbm, ⟨17, _⟩ => ⟨S2x4096x20, .i1⟩
  | .hbm, ⟨18, _⟩ => ⟨S_, .i32⟩
  | .hbm, ⟨19, _⟩ => ⟨S2x4096x20, .i32⟩
  | .hbm, ⟨20, _⟩ => ⟨S2x4096x20, .i32⟩
  | .hbm, ⟨21, _⟩ => ⟨S2x4096x20, .i32⟩
  | .hbm, ⟨22, _⟩ => ⟨S2x4096x20x1, .i32⟩
  | .hbm, ⟨23, _⟩ => ⟨S2x4096x20x256, .f32⟩
  | .hbm, ⟨24, _⟩ => ⟨S_, .f32⟩
  | .hbm, ⟨25, _⟩ => ⟨S2x4096x256, .f32⟩
  | .hbm, ⟨26, _⟩ => ⟨S2x4096x20x256, .f32⟩
  | .hbm, ⟨27, _⟩ => ⟨S_, .f32⟩
  | .hbm, ⟨28, _⟩ => ⟨S2x4096x256, .f32⟩
  | .hbm, ⟨29, _⟩ => ⟨S_, .f32⟩
  | .hbm, ⟨30, _⟩ => ⟨S2x4096x256, .f32⟩
  | .hbm, ⟨31, _⟩ => ⟨S256, .f32⟩
  | .hbm, ⟨32, _⟩ => ⟨S256, .f32⟩
  | .hbm, ⟨33, _⟩ => ⟨S2x4096x256, .f32⟩
  | .hbm, ⟨34, _⟩ => ⟨S2x256x4096, .f32⟩
  | .hbm, ⟨35, _⟩ => ⟨S2x256x4096x1, .f32⟩
  | .local _ .vmem, ⟨0, _⟩ => ⟨S1x1024x128, .f32⟩
  | .local _ .vmem, ⟨1, _⟩ => ⟨S1x1024x128, .f32⟩
  | .local _ .vmem, ⟨2, _⟩ => ⟨S256x128, .f32⟩
  | .local _ .vmem, ⟨3, _⟩ => ⟨S256x128, .f32⟩
  | .local _ .vmem, ⟨4, _⟩ => ⟨S256, .f32⟩
  | .local _ .vmem, ⟨5, _⟩ => ⟨S1x1024x256, .f32⟩
  | .local _ .vmem, ⟨6, _⟩ => ⟨S1x1024x256, .f32⟩
  | .local _ .vmem, ⟨7, _⟩ => ⟨S1x1024x256, .f32⟩
  | .local _ .vmem, ⟨8, _⟩ => ⟨S1x1024x256, .f32⟩
  | .local _ .vmem, ⟨9, _⟩ => ⟨S1x4096x128, .f32⟩
  | .local _ .vmem, ⟨10, _⟩ => ⟨S1x4096x128, .f32⟩
  | .local _ .vmem, ⟨11, _⟩ => ⟨S1x128x128, .f32⟩
  | .local _ .vmem, ⟨12, _⟩ => ⟨S1x128x128, .f32⟩
  | .local _ .vmem, ⟨13, _⟩ => ⟨S1x1x20x128, .i32⟩
  | .local _ .vmem, ⟨14, _⟩ => ⟨S1x1x20x128, .i32⟩
  | .local _ .vmem, ⟨15, _⟩ => ⟨S320x128, .f32⟩
  | .local _ .vmem, ⟨16, _⟩ => ⟨S320x128, .i32⟩
  | .local _ .vmem, ⟨17, _⟩ => ⟨S2x4096x256, .f32⟩
  | .local _ .vmem, ⟨18, _⟩ => ⟨S2x4096x256, .f32⟩
  | .local _ .vmem, ⟨19, _⟩ => ⟨S2x4096x256, .f32⟩
  | .local _ .vmem, ⟨20, _⟩ => ⟨S256, .f32⟩
  | .local _ .vmem, ⟨21, _⟩ => ⟨S256, .f32⟩
  | .local _ .vmem, ⟨22, _⟩ => ⟨S1x1024x256, .f32⟩
  | .local _ .vmem, ⟨23, _⟩ => ⟨S1x1024x256, .f32⟩
  | .local _ .vmem, ⟨24, _⟩ => ⟨S1x1024x256, .f32⟩
  | .local _ .vmem, ⟨25, _⟩ => ⟨S1x1024x256, .f32⟩
  | .local _ .vmem, ⟨26, _⟩ => ⟨S256, .f32⟩
  | .local _ .vmem, ⟨27, _⟩ => ⟨S256, .f32⟩
  | .local _ .vmem, ⟨28, _⟩ => ⟨S256, .f32⟩
  | .local _ .vmem, ⟨29, _⟩ => ⟨S256, .f32⟩
  | .local _ .vmem, ⟨30, _⟩ => ⟨S1x1024x256, .f32⟩
  | .local _ .vmem, ⟨31, _⟩ => ⟨S1x1024x256, .f32⟩
  | _, _ => ⟨S2x128x4096x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_scratch0 : Ref sig .tc := ⟨.vmem, 15, rfl⟩
abbrev cc1_scratch1 : Ref sig .tc := ⟨.vmem, 16, rfl⟩
abbrev cc2_stg0_0 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg6_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc2_sem0_0 : DmaSem sig := 15
abbrev cc2_sem1_0 : DmaSem sig := 16
abbrev cc2_sem2_0 : DmaSem sig := 17
abbrev cc2_sem3_0 : DmaSem sig := 18
abbrev cc2_sem4_0 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem5_0 : DmaSem sig := 27
abbrev cc3_sem6_0 : DmaSem sig := 28
abbrev cc3_sem6_1 : DmaSem sig := 29

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![2, 32], ![false, false]⟩

@[reducible] def k1_t1_loop : Scf.Loop 32 :=
  let c0_i32 : BitVec 32 := 0#32
  let c16_i32 : BitVec 32 := 16#32
  let v4 : BitVec 32 := Scalar.addi c0_i32 c16_i32
  let c1_i32 : BitVec 32 := 1#32
  ⟨c0_i32, v4, c1_i32⟩
def k1_off1 (k1_t1 : Fin k1_t1_loop.trips) : Fin 3 → Nat :=
  let c0_147 : Index := 0#32
  let c0_i32 : BitVec 32 := 0#32
  let c1_i32 : BitVec 32 := 1#32
  let arg7 : BitVec 32 := Scf.iv c0_i32 c1_i32 k1_t1
  let c256_i32 : BitVec 32 := 256#32
  let v378 : BitVec 32 := Scalar.muli arg7 c256_i32
  let v379 : Index := Scalar.indexCast v378
  let c0_148 : Index := 0#32
  ![0, v379.toNat, 0]
def k1_off2 (k1_t1 : Fin k1_t1_loop.trips) (c0_i32_156 : BitVec 32) : Fin 2 → Nat :=
  let c0_i32 : BitVec 32 := 0#32
  let c1_i32 : BitVec 32 := 1#32
  let arg7 : BitVec 32 := Scf.iv c0_i32 c1_i32 k1_t1
  let c20_i32 : BitVec 32 := 20#32
  let v405 : BitVec 32 := Scalar.muli arg7 c20_i32
  let v406 : BitVec 32 := Scalar.addi v405 c0_i32_156
  let v407 : Index := Scalar.indexCast v406
  let c0_157 : Index := 0#32
  ![v407.toNat, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x20x128 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := .none

abbrev stage2_0 : Fin 1 → Memref sig .tc .vmem S2x4096x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S2x4096x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S2x4096x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev grid3 : Pipeline.Grid := ⟨2, ![2, 4], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_2 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_3 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_5 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_6 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x1024x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x1024x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 1 → Memref sig .tc .vmem S256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 2 → Memref sig .tc .vmem S1x1024x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]
-- ==== ReferenceIdeal.lean ====
abbrev S2x128x4096x1 : Shape := ⟨4, ![2, 128, 4096, 1]⟩
abbrev S256x256 : Shape := ⟨2, ![256, 256]⟩
abbrev S256 : Shape := ⟨1, ![256]⟩
abbrev S2x128x4096 : Shape := ⟨3, ![2, 128, 4096]⟩
abbrev S2x4096x128 : Shape := ⟨3, ![2, 4096, 128]⟩
abbrev S_ : Shape := ⟨0, ![]⟩
abbrev S2x4096 : Shape := ⟨2, ![2, 4096]⟩
abbrev S2x4096x1 : Shape := ⟨3, ![2, 4096, 1]⟩
abbrev S2x4096x4096 : Shape := ⟨3, ![2, 4096, 4096]⟩
abbrev S2x1x4096 : Shape := ⟨3, ![2, 1, 4096]⟩
abbrev S2x4096x20 : Shape := ⟨3, ![2, 4096, 20]⟩
abbrev S2x4096x20x1 : Shape := ⟨4, ![2, 4096, 20, 1]⟩
abbrev S2x128x4096x20 : Shape := ⟨4, ![2, 128, 4096, 20]⟩
abbrev S2x256x4096x20 : Shape := ⟨4, ![2, 256, 4096, 20]⟩
abbrev S2x4096x20x256 : Shape := ⟨4, ![2, 4096, 20, 256]⟩
abbrev S1x256x1x1 : Shape := ⟨4, ![1, 256, 1, 1]⟩
abbrev S2x256x4096 : Shape := ⟨3, ![2, 256, 4096]⟩
abbrev S2x256x4096x1 : Shape := ⟨4, ![2, 256, 4096, 1]⟩

abbrev nBuf : Space → Nat
  | .hbm => 77
  | .vmem => 0
  | .smem => 0
  | _ => 0

abbrev bufTy : (tb : Table) → Fin (tcTables nBuf tb) → BufTy
  | .hbm, ⟨0, _⟩ => ⟨S2x128x4096x1, .f32⟩
  | .hbm, ⟨1, _⟩ => ⟨S256x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S2x128x4096, .f32⟩
  | .hbm, ⟨6, _⟩ => ⟨S2x4096x128, .f32⟩
  | .hbm, ⟨7, _⟩ => ⟨S2x4096x128, .f32⟩
  | .hbm, ⟨8, _⟩ => ⟨S_, .f32⟩
  | .hbm, ⟨9, _⟩ => ⟨S2x4096, .f32⟩
  | .hbm, ⟨10, _⟩ => ⟨S2x4096x1, .f32⟩
  | .hbm, ⟨11, _⟩ => ⟨S2x128x4096, .f32⟩
  | .hbm, ⟨12, _⟩ => ⟨S2x4096x4096, .f32⟩
  | .hbm, ⟨13, _⟩ => ⟨S_, .f32⟩
  | .hbm, ⟨14, _⟩ => ⟨S2x4096x4096, .f32⟩
  | .hbm, ⟨15, _⟩ => ⟨S2x4096x4096, .f32⟩
  | .hbm, ⟨16, _⟩ => ⟨S2x4096x4096, .f32⟩
  | .hbm, ⟨17, _⟩ => ⟨S2x4096x4096, .f32⟩
  | .hbm, ⟨18, _⟩ => ⟨S2x1x4096, .f32⟩
  | .hbm, ⟨19, _⟩ => ⟨S2x4096x4096, .f32⟩
  | .hbm, ⟨20, _⟩ => ⟨S2x4096x4096, .f32⟩
  | .hbm, ⟨21, _⟩ => ⟨S2x4096x4096, .f32⟩
  | .hbm, ⟨22, _⟩ => ⟨S2x4096x20, .f32⟩
  | .hbm, ⟨23, _⟩ => ⟨S2x4096x20, .i32⟩
  | .hbm, ⟨24, _⟩ => ⟨S_, .i32⟩
  | .hbm, ⟨25, _⟩ => ⟨S2x4096x20, .i32⟩
  | .hbm, ⟨26, _⟩ => ⟨S2x4096x20, .i1⟩
  | .hbm, ⟨27, _⟩ => ⟨S_, .i32⟩
  | .hbm, ⟨28, _⟩ => ⟨S2x4096x20, .i32⟩
  | .hbm, ⟨29, _⟩ => ⟨S2x4096x20, .i32⟩
  | .hbm, ⟨30, _⟩ => ⟨S2x4096x20, .i32⟩
  | .hbm, ⟨31, _⟩ => ⟨S2x4096x20x1, .i32⟩
  | .hbm, ⟨32, _⟩ => ⟨S2x128x4096x20, .f32⟩
  | .hbm, ⟨33, _⟩ => ⟨S2x128x4096x1, .f32⟩
  | .hbm, ⟨34, _⟩ => ⟨S2x128x4096x20, .f32⟩
  | .hbm, ⟨35, _⟩ => ⟨S2x128x4096x20, .f32⟩
  | .hbm, ⟨36, _⟩ => ⟨S2x256x4096x20, .f32⟩
  | .hbm, ⟨37, _⟩ => ⟨S2x4096x20x256, .f32⟩
  | .hbm, ⟨38, _⟩ => ⟨S2x256x4096x20, .f32⟩
  | .hbm, ⟨39, _⟩ => ⟨S1x256x1x1, .f32⟩
  | .hbm, ⟨40, _⟩ => ⟨S2x256x4096x20, .f32⟩
  | .hbm, ⟨41, _⟩ => ⟨S2x256x4096x20, .f32⟩
  | .hbm, ⟨42, _⟩ => ⟨S_, .f32⟩
  | .hbm, ⟨43, _⟩ => ⟨S256, .f32⟩
  | .hbm, ⟨44, _⟩ => ⟨S1x256x1x1, .f32⟩
  | .hbm, ⟨45, _⟩ => ⟨S_, .f32⟩
  | .hbm, ⟨46, _⟩ => ⟨S1x256x1x1, .f32⟩
  | .hbm, ⟨47, _⟩ => ⟨S1x256x1x1, .f32⟩
  | .hbm, ⟨48, _⟩ => ⟨S2x256x4096x20, .f32⟩
  | .hbm, ⟨49, _⟩ => ⟨S2x256x4096x20, .f32⟩
  | .hbm, ⟨50, _⟩ => ⟨S2x256x4096x20, .f32⟩
  | .hbm, ⟨51, _⟩ => ⟨S_, .f32⟩
  | .hbm, ⟨52, _⟩ => ⟨S256, .f32⟩
  | .hbm, ⟨53, _⟩ => ⟨S1x256x1x1, .f32⟩
  | .hbm, ⟨54, _⟩ => ⟨S_, .f32⟩
  | .hbm, ⟨55, _⟩ => ⟨S1x256x1x1, .f32⟩
  | .hbm, ⟨56, _⟩ => ⟨S1x256x1x1, .f32⟩
  | .hbm, ⟨57, _⟩ => ⟨S2x256x4096x20, .f32⟩
  | .hbm, ⟨58, _⟩ => ⟨S2x256x4096x20, .f32⟩
  | .hbm, ⟨59, _⟩ => ⟨S_, .f32⟩
  | .hbm, ⟨60, _⟩ => ⟨S1x256x1x1, .f32⟩
  | .hbm, ⟨61, _⟩ => ⟨S1x256x1x1, .f32⟩
  | .hbm, ⟨62, _⟩ => ⟨S1x256x1x1, .f32⟩
  | .hbm, ⟨63, _⟩ => ⟨S2x256x4096x20, .f32⟩
  | .hbm, ⟨64, _⟩ => ⟨S2x256x4096x20, .f32⟩
  | .hbm, ⟨65, _⟩ => ⟨S1x256x1x1, .f32⟩
  | .hbm, ⟨66, _⟩ => ⟨S2x256x4096x20, .f32⟩
  | .hbm, ⟨67, _⟩ => ⟨S2x256x4096x20, .f32⟩
  | .hbm, ⟨68, _⟩ => ⟨S1x256x1x1, .f32⟩
  | .hbm, ⟨69, _⟩ => ⟨S2x256x4096x20, .f32⟩
  | .hbm, ⟨70, _⟩ => ⟨S2x256x4096x20, .f32⟩
  | .hbm, ⟨71, _⟩ => ⟨S_, .f32⟩
  | .hbm, ⟨72, _⟩ => ⟨S2x256x4096x20, .f32⟩
  | .hbm, ⟨73, _⟩ => ⟨S2x256x4096x20, .f32⟩
  | .hbm, ⟨74, _⟩ => ⟨S_, .f32⟩
  | .hbm, ⟨75, _⟩ => ⟨S2x256x4096, .f32⟩
  | .hbm, ⟨76, _⟩ => ⟨S2x256x4096x1, .f32⟩
  | _, _ => ⟨S2x128x4096x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_values : Ref sig .tc := ⟨.hbm, 22, rfl⟩
abbrev main_indices : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_c_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_2 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_6 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_call0_cst : Ref sig .tc := ⟨.hbm, 71, rfl⟩
abbrev main_call0_v0 : Ref sig .tc := ⟨.hbm, 72, rfl⟩
abbrev main_v55 : Ref sig .tc := ⟨.hbm, 73, rfl⟩
abbrev main_cst_7 : Ref sig .tc := ⟨.hbm, 74, rfl⟩
abbrev main_v56 : Ref sig .tc := ⟨.hbm, 75, rfl⟩
abbrev main_v57 : Ref sig .tc := ⟨.hbm, 76, rfl⟩

abbrev nD : Nat := 1
abbrev τ : Topo := Topo.v7x

variable {F : FTy → Type} [FloatOps F]
-- ==== Proof.Frames.lean ====
/- Frames: each of the three programs runs to its end and leaves its arguments and its counters as it found them. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_nonneg
public import Idealize.ShloMosaic.Lib.Claim
public import Idealize.ShloMosaic.Lib.Quiescent

@[expose] public section

set_option maxRecDepth 16384

noncomputable section

namespace Cert.Frames

open Idealize.ShloMosaic Idealize.SL.Sem

/-- The kernel at the machine's words runs, and leaves its arguments and its semaphores unchanged. -/
theorem kernel : Cert.quiescent_Kernel := fun m ρ _ => Cert.Kernel.Gen.frame m ρ

/-- The kernel over the extended reals runs, and leaves its arguments and its semaphores unchanged. -/
theorem kernelIdeal : Cert.quiescent_KernelIdeal := fun m ρ _ => Cert.KernelIdeal.Gen.frame m ρ

/-- The same under the precondition. -/
theorem kernelIdeal_pre : Cert.quiescent_KernelIdeal_pre_finite_nonneg := fun m ρ _ => Cert.KernelIdeal.Gen.frame m ρ

/-- The reference over the extended reals runs, and leaves its arguments and its semaphores unchanged. -/
theorem reference : Cert.quiescent_ReferenceIdeal := by
  intro m g _
  exact (θ_run Cert.ReferenceIdeal.defs _ _).mono (fun r h => ⟨fun c => (h c).2, sem_eq_zero_of_no_sems (by decide) r.2⟩)
    (Cert.ReferenceIdeal.Value.run m g)

/-- The same under the precondition. -/
theorem reference_pre : Cert.quiescent_ReferenceIdeal_pre_finite_nonneg :=
  fun m g _ => reference m g trivial

end Cert.Frames

end
-- ==== Proof.KernelRun.lean ====
/- The kernel's run, with its result named. -/
module

public import proofs.«01_k».proof.Proof.Gen.KernelIdeal.Frame
public import Idealize.ShloMosaic.PureOps.Ideal

@[expose] public section

set_option maxRecDepth 16384

noncomputable section

namespace Cert.KernelRun

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every execution ends with the result array at the last boundary's contents and the arguments as launched. -/
theorem run : θ_run defs (onTc (τ := τ) (main (F := Ideal))) ⟨m, fun _ => 0, ρ⟩ (fun r => (∀ c : Dev nD,
      r.2.mem ((c.tc : Thread nD τ).loc main_v23) = W7 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨fun c =>
      ⟨(h c _ (mem_uc main_v23 (by decide))).trans rfl,
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c)⟩, funext fun g => hz g (.inr (no_unscoped g.2))⟩)

end Cert.KernelRun
-- ==== Proof.Rank.lean ====
/- Ranks in a finite family of distinct keys: how many of its members come before a given one. The t nearest of a family
   are its members of rank below t; a member's rank in a part of the family that holds everything before it is its rank in
   the whole family; a stable sort puts the member of rank t at place t. -/
module

public import Idealize.ShloMosaic.Lib.SortFacts
public import Mathlib.Data.Prod.Lex
public import Mathlib.Data.Fintype.EquivFin
public import Mathlib.Order.Interval.Finset.Fin

@[expose] public section

noncomputable section

namespace Cert.Rank

open Idealize.ShloMosaic

variable {ι κ β : Type} [Fintype ι] [Fintype κ] [LinearOrder β]

/-- The number of members whose key is below member `i`'s. -/
def rk (f : ι → β) (i : ι) : ℕ := (Finset.univ.filter fun j => f j < f i).card

/-- Ranks order members as their keys do. -/
theorem rk_lt_iff (f : ι → β) (i j : ι) : rk f i < rk f j ↔ f i < f j := by
  constructor
  · intro h
    by_contra hn
    push Not at hn
    exact absurd (Finset.card_le_card (fun k hk => by
      simp only [Finset.mem_filter, Finset.mem_univ, true_and] at hk ⊢
      exact hk.trans_le hn)) (not_le.mpr h)
  · intro h
    refine Finset.card_lt_card ⟨fun k hk => ?_, fun hs => ?_⟩
    · simp only [Finset.mem_filter, Finset.mem_univ, true_and] at hk ⊢
      exact hk.trans h
    · have := hs (Finset.mem_filter.mpr ⟨Finset.mem_univ i, h⟩)
      simp at this

/-- Distinct keys have distinct ranks. -/
theorem rk_injective (f : ι → β) (hf : Function.Injective f) : Function.Injective (rk f) := by
  intro i j h
  rcases lt_trichotomy (f i) (f j) with h1 | h1 | h1
  · exact absurd h ((rk_lt_iff f i j).mpr h1).ne
  · exact hf h1
  · exact absurd h ((rk_lt_iff f j i).mpr h1).ne'

/-- A rank is below the number of members. -/
theorem rk_lt_card (f : ι → β) (i : ι) : rk f i < Fintype.card ι :=
  Finset.card_lt_card ⟨Finset.subset_univ _, fun hs => by simpa using hs (Finset.mem_univ i)⟩

/-- Every number below the number of members is a member's rank. -/
theorem exists_rk (f : ι → β) (hf : Function.Injective f) (t : ℕ) (ht : t < Fintype.card ι) : ∃ i, rk f i = t := by
  have hi : Function.Injective (fun i => (⟨rk f i, rk_lt_card f i⟩ : Fin (Fintype.card ι))) :=
    fun i j h => rk_injective f hf (congrArg Fin.val h)
  obtain ⟨i, hi⟩ := ((Fintype.bijective_iff_injective_and_card _).mpr ⟨hi, by simp⟩).2 ⟨t, ht⟩
  exact ⟨i, congrArg Fin.val hi⟩

/-- A part's ranks are at most the whole's. -/
theorem rk_comp_le (f : ι → β) (q : κ → ι) (hq : Function.Injective q) (i : κ) : rk (fun k => f (q k)) i ≤ rk f (q i) := by
  unfold rk
  rw [← Finset.card_map ⟨q, hq⟩]
  refine Finset.card_le_card fun k hk => ?_
  simp only [Finset.mem_map, Finset.mem_filter, Finset.mem_univ, true_and, Function.Embedding.coeFn_mk] at hk ⊢
  obtain ⟨j, hj, rfl⟩ := hk
  exact hj

/-- In a part that holds every member before `q i`, the rank of `i` is the rank of `q i` in the whole family. -/
theorem rk_comp_eq (f : ι → β) (q : κ → ι) (hq : Function.Injective q) (i : κ) (h : ∀ j, f j < f (q i) → ∃ k, q k = j) :
    rk (fun k => f (q k)) i = rk f (q i) := by
  refine le_antisymm (rk_comp_le f q hq i) ?_
  unfold rk
  rw [← Finset.card_map ⟨q, hq⟩]
  refine Finset.card_le_card fun k hk => ?_
  simp only [Finset.mem_map, Finset.mem_filter, Finset.mem_univ, true_and, Function.Embedding.coeFn_mk] at hk ⊢
  obtain ⟨j, rfl⟩ := h k hk
  exact ⟨j, hk, rfl⟩

/-- A key with its member's number, compared by the key and then by the number. -/
def byKey {n : ℕ} (d : Fin n → β) (i : Fin n) : β ×ₗ ℕ := toLex (d i, i.val)

theorem byKey_injective {n : ℕ} (d : Fin n → β) : Function.Injective (byKey d) := by
  intro i j h
  have := congrArg (fun x => (ofLex x).2) h
  exact Fin.ext this

/-- The member at place `t` in the order by key, ties by number. -/
def place {n : ℕ} (d : Fin n → β) (t : Fin n) : Fin n :=
  (exists_rk (byKey d) (byKey_injective d) t.val (by rw [Fintype.card_fin]; exact t.isLt)).choose

theorem rk_place {n : ℕ} (d : Fin n → β) (t : Fin n) : rk (byKey d) (place d t) = t.val :=
  (exists_rk (byKey d) (byKey_injective d) t.val (by rw [Fintype.card_fin]; exact t.isLt)).choose_spec

/-- `byKey` compares keys first, numbers second. -/
theorem byKey_lt {n : ℕ} (d : Fin n → β) (i j : Fin n) : byKey d i < byKey d j ↔ d i < d j ∨ d i = d j ∧ i < j := by
  unfold byKey
  rw [Prod.Lex.toLex_lt_toLex]
  rfl

section Sorted

variable {n : ℕ} (d : Fin n → β) (R : Fin n → Fin n → Bool) (hR : ∀ a b, R a b = true ↔ d a < d b)
include hR

/-- Inserting a member in front of members of greater number keeps them in order. -/
theorem pairwise_insertBefore_byKey (a : Fin n) (l : List (Fin n)) (hl : l.Pairwise fun b c => byKey d b < byKey d c)
    (ha : ∀ b ∈ l, a < b) : (insertBefore R a l).Pairwise fun b c => byKey d b < byKey d c := by
  induction l with
  | nil => exact List.pairwise_singleton _ _
  | cons b l ih =>
    rw [List.pairwise_cons] at hl
    unfold insertBefore
    split
    · rename_i hba
      refine List.pairwise_cons.mpr ⟨fun c hc => ?_, ih hl.2 fun c hc => ha c (List.mem_cons_of_mem _ hc)⟩
      rcases List.mem_cons.mp ((perm_insertBefore R a l).mem_iff.mp hc) with rfl | hc
      · exact (byKey_lt d _ _).mpr (.inl ((hR _ _).mp hba))
      · exact hl.1 c hc
    · rename_i hba
      have hab : byKey d a < byKey d b := by
        rw [byKey_lt]
        rcases lt_trichotomy (d a) (d b) with h | h | h
        · exact .inl h
        · exact .inr ⟨h, ha b List.mem_cons_self⟩
        · exact absurd ((hR _ _).mpr h) hba
      refine List.pairwise_cons.mpr ⟨fun c hc => ?_, List.pairwise_cons.mpr hl⟩
      rcases List.mem_cons.mp hc with rfl | hc
      · exact hab
      · exact hab.trans (hl.1 c hc)

/-- A stable sort of members listed by number orders them by key and then number. -/
theorem pairwise_stableSort_byKey (l : List (Fin n)) (hl : l.Pairwise (· < ·)) :
    (stableSort R l).Pairwise fun b c => byKey d b < byKey d c := by
  induction l with
  | nil => exact List.Pairwise.nil
  | cons a l ih =>
    rw [List.pairwise_cons] at hl
    unfold stableSort
    exact pairwise_insertBefore_byKey d R hR a _ (ih hl.2) fun b hb => hl.1 b ((perm_stableSort R l).mem_iff.mp hb)

/-- Places of a stable sort are in the order of key and then number. -/
theorem sortedFrom_lt (i j : Fin n) (hij : i < j) : byKey d (sortedFrom R i) < byKey d (sortedFrom R j) := by
  have h := List.pairwise_iff_get.mp (pairwise_stableSort_byKey d R hR (List.finRange n) (List.pairwise_lt_finRange n))
  exact h (i.cast (length_sortPositions n R).symm) (j.cast (length_sortPositions n R).symm) hij

/-- A stable sort puts the member of rank `t` at place `t`. -/
theorem rk_sortedFrom (t : Fin n) : rk (byKey d) (sortedFrom R t) = t.val := by
  have hiff : ∀ i j : Fin n, byKey d (sortedFrom R i) < byKey d (sortedFrom R j) ↔ i < j := by
    intro i j
    refine ⟨fun h => ?_, sortedFrom_lt d R hR i j⟩
    by_contra hn
    rcases (not_lt.mp hn).eq_or_lt with rfl | hlt
    · exact lt_irrefl _ h
    · exact lt_asymm h (sortedFrom_lt d R hR j i hlt)
  rw [← rk_comp_eq (byKey d) (sortedFrom R) (sortedFrom_injective R) t fun j _ => sortedFrom_surjective R j]
  unfold rk
  simp only [hiff]
  rw [show (Finset.univ.filter fun j => j < t) = Finset.Iio t from by ext; simp, Fin.card_Iio]

/-- A stable sort puts at place `t` the member that stands there. -/
theorem sortedFrom_eq_place (t : Fin n) : sortedFrom R t = place d t :=
  rk_injective _ (byKey_injective d) ((rk_sortedFrom d R hR t).trans (rk_place d t).symm)

end Sorted

end Cert.Rank

end
-- ==== Proof.Rounds.lean ====
/- One round of the selection by repeated minimum, on one column: the minimum, the least number that attains it, and the
   column with that entry overwritten by +∞. Before round t the column holds +∞ at its members of rank below t and its own
   values elsewhere, so round t finds the member of rank t. -/
module

public import proofs.«01_k».proof.Proof.Rank
public import Idealize.ShloMosaic.Lib.Pointwise
public import Mathlib.Data.EReal.Basic

@[expose] public section

noncomputable section

namespace Cert.Rounds

open Idealize.ShloMosaic Cert.Rank

/-- A value below the start and every member, and attained, is the fold's minimum. -/
theorem fold_min_eq {β : Type} [LinearOrder β] {n : ℕ} (g : Fin n → β) (b v : β) (hb : v ≤ b) (hle : ∀ i, v ≤ g i) (hex : ∃ i, g i = v) :
    Finset.univ.fold min b g = v := by
  refine le_antisymm ?_ (Finset.le_fold_min _ |>.mpr ⟨hb, fun i _ => hle i⟩)
  obtain ⟨i, rfl⟩ := hex
  exact Finset.fold_min_le _ |>.mpr (.inr ⟨i, Finset.mem_univ i, le_rfl⟩)

theorem toInt_minsi (x y : BitVec 32) : (IntOp.minsi x y).toInt = min x.toInt y.toInt := by
  unfold IntOp.minsi
  rw [BitVec.slt_eq_decide]
  split <;> rename_i h <;> simp at h <;> omega

/-- The same for the signed minimum of words. -/
theorem fold_minsi_eq {n : ℕ} (g : Fin n → BitVec 32) (b v : BitVec 32) (hb : v.toInt ≤ b.toInt) (hle : ∀ i, v.toInt ≤ (g i).toInt)
    (hex : ∃ i, g i = v) : Finset.univ.fold IntOp.minsi b g = v := by
  apply BitVec.eq_of_toInt_eq
  rw [← Finset.fold_hom (op' := min) (m := BitVec.toInt) toInt_minsi]
  exact fold_min_eq _ _ _ hb hle (hex.imp fun i h => by rw [h])

variable {n : ℕ} (d : Fin 4096 → EReal) (q : Fin n → Fin 4096)

/-- The word for a point's number. -/
def word (p : Fin 4096) : BitVec 32 := BitVec.ofNat 32 p.val

theorem toInt_word (p : Fin 4096) : (word p).toInt = p.val := by
  have := p.isLt
  have h : (word p).toNat = p.val := by
    unfold word
    rw [BitVec.toNat_ofNat]
    omega
  rw [BitVec.toInt_eq_toNat_of_lt (by omega), h]

theorem word_injective : Function.Injective word := fun p p' h => by
  have := congrArg BitVec.toInt h
  rw [toInt_word, toInt_word] at this
  exact Fin.ext (by exact_mod_cast this)

/-- A member's rank among the points that the column lists, by distance and then number. -/
def crk (i : Fin n) : ℕ := rk (fun k => byKey d (q k)) i

/-- The column before round `t`: members of rank below `t` are overwritten by +∞. -/
def col (t : ℕ) (i : Fin n) : EReal := if crk d q i < t then ⊤ else d (q i)

theorem col_zero : col d q 0 = fun i => d (q i) := by
  funext i
  simp [col]

variable (hd : ∀ p, d p < ⊤) (hq : Function.Injective q)

include hq in
theorem key_injective : Function.Injective fun k => byKey d (q k) := (byKey_injective d).comp hq

include hq in
/-- Some member has rank `t`. -/
theorem exists_crk (t : ℕ) (ht : t < n) : ∃ i, crk d q i = t :=
  exists_rk _ (key_injective d q hq) t (by simpa using ht)

theorem le_of_crk {i j : Fin n} (h : crk d q i ≤ crk d q j) : byKey d (q i) ≤ byKey d (q j) := by
  by_contra hn
  exact absurd ((rk_lt_iff (fun k => byKey d (q k)) j i).mpr (not_le.mp hn)) (not_lt.mpr h)

/-- Keys in order: distances in order, and numbers in order among equal distances. -/
theorem byKey_le {a b : Fin 4096} (h : byKey d a ≤ byKey d b) : d a ≤ d b ∧ (d a = d b → a ≤ b) := by
  rcases h.eq_or_lt with h | h
  · obtain rfl := byKey_injective d h
    exact ⟨le_rfl, fun _ => le_rfl⟩
  · rcases (byKey_lt d a b).mp h with h | ⟨h, h'⟩
    · exact ⟨h.le, fun e => absurd e h.ne⟩
    · exact ⟨h.le, fun _ => h'.le⟩

/-- Round `t` finds the distance of the member of rank `t`. -/
theorem min_col (i : Fin n) : Finset.univ.fold min (⊤ : EReal) (col d q (crk d q i)) = d (q i) := by
  refine fold_min_eq _ _ _ le_top (fun j => ?_) ⟨i, by simp [col]⟩
  unfold col
  split
  · exact le_top
  · rename_i h
    exact (byKey_le d (le_of_crk d q (not_lt.mp h))).1

include hd in
/-- Round `t` finds the number of the member of rank `t`. -/
theorem arg_col (i : Fin n) :
    Finset.univ.fold IntOp.minsi (2147483647#32) (fun j => if col d q (crk d q i) j = d (q i) then word (q j) else 4096#32) = word (q i) := by
  refine fold_minsi_eq _ _ _ ?_ (fun j => ?_) ⟨i, by simp [col]⟩
  · rw [toInt_word]
    have := (q i).isLt
    have : (2147483647#32).toInt = 2147483647 := by decide
    omega
  · rw [toInt_word]
    have hi := (q i).isLt
    split
    · rename_i h
      rw [toInt_word]
      unfold col at h
      split at h
      · exact absurd h (hd _).ne'
      · rename_i h'
        exact_mod_cast (byKey_le d (le_of_crk d q (not_lt.mp h'))).2 h.symm
    · have : (4096#32).toInt = 4096 := by decide
      omega

include hq in
theorem col_succ (i j : Fin n) : col d q (crk d q i + 1) j = if j = i then ⊤ else col d q (crk d q i) j := by
  unfold col
  by_cases h : j = i
  · subst h
    simp
  · have : crk d q j ≠ crk d q i := fun e => h (rk_injective _ (key_injective d q hq) e)
    rw [if_neg h]
    congr 1
    simp only [eq_iff_iff]
    omega

include hq in
/-- The next round's column, the found number overwritten. -/
theorem next_col (i j : Fin n) :
    (if word (q j) = word (q i) then (⊤ : EReal) else col d q (crk d q i) j) = col d q (crk d q i + 1) j := by
  rw [col_succ d q hq]
  refine if_congr ⟨fun h => hq (word_injective h), fun h => by rw [h]⟩ rfl rfl

include hq in
/-- The next round's column, the entry overwritten where both the found distance and the found number stand. -/
theorem next_col_both (i j : Fin n) :
    (if col d q (crk d q i) j = d (q i) ∧ word (q j) = word (q i) then (⊤ : EReal) else col d q (crk d q i) j)
      = col d q (crk d q i + 1) j := by
  rw [col_succ d q hq]
  refine if_congr ⟨fun h => hq (word_injective h.2), fun h => ?_⟩ rfl rfl
  subst h
  simp [col]

end Cert.Rounds

end
-- ==== Proof.K2Round.lean ====
/- The selection kernel's two kinds of round, as vector operations: over a chunk of 256 points and over the 320 candidates
   that the chunks leave. Lane by lane each is a round of Rounds.lean. -/
module

public import proofs.«01_k».proof.Proof.Rounds
public import proofs.«01_k».proof.Proof.Gen.KernelIdeal.Skeleton
public import Idealize.ShloMosaic.Lib.Pointwise

@[expose] public section

set_option maxRecDepth 16384

noncomputable section

namespace Cert.K2

open Idealize.ShloMosaic Cert.KernelIdeal Cert.KernelIdeal.Gen Cert.Rank Cert.Rounds

theorem top_word : Ideal.ofBits .f32 0x7F800000#32 = ⊤ := by simp [Ideal.ofBits, Ideal.ieee]

/-! ## A chunk of 256 points -/

/-- Each lane's least distance. -/
def cMin (D : FVec Ideal S256x128 .f32) : FVec Ideal S128 .f32 :=
  multiReduction .minimumf [0] S128 D 0x7F800000#32 reduces_S256x128_S128 (.inl rfl) rfl

/-- Each lane's least number among those at the least distance. -/
def cArg (I : IVec S256x128 32) (D : FVec Ideal S256x128 .f32) : IVec S128 32 :=
  multiReductionI .minsi [0] S128
    (select (cmpf .oeq D (broadcastTo S256x128 (shapeCast S1x128 (cMin D) shapeCasts_S128_S1x128) broadcasts_S1x128_S256x128))
      I (broadcast S256x128 4096#32)) 2147483647#32 reduces_S256x128_S128 rfl

/-- The chunk with the found entries overwritten. -/
def cNext (I : IVec S256x128 32) (D : FVec Ideal S256x128 .f32) : FVec Ideal S256x128 .f32 :=
  select (cmpi .eq I (broadcastTo S256x128 (shapeCast S1x128 (cArg I D) shapeCasts_S128_S1x128) broadcasts_S1x128_S256x128))
    (broadcast S256x128 (Scalar.ofBits .f32 0x7F800000#32)) D

/-- The chunk before round `t`. -/
def cAt (I : IVec S256x128 32) (D : FVec Ideal S256x128 .f32) : ℕ → FVec Ideal S256x128 .f32
  | 0 => D
  | t + 1 => cNext I (cAt I D t)

theorem cMin_apply (D : FVec Ideal S256x128 .f32) (l : Fin 128) :
    cMin D (ix1 l) = Finset.univ.fold min (⊤ : EReal) fun j => D (ix2 j l) := by
  pointwise [cMin]
  rw [top_word]

theorem cArg_apply (I : IVec S256x128 32) (D : FVec Ideal S256x128 .f32) (l : Fin 128) :
    cArg I D (ix1 l) = Finset.univ.fold IntOp.minsi 2147483647#32
      fun j => if D (ix2 j l) = cMin D (ix1 l) then I (ix2 j l) else 4096#32 := by
  pointwise [cArg]

theorem cNext_apply (I : IVec S256x128 32) (D : FVec Ideal S256x128 .f32) (j : Fin 256) (l : Fin 128) :
    cNext I D (ix2 j l) = if I (ix2 j l) = cArg I D (ix1 l) then (⊤ : EReal) else D (ix2 j l) := by
  pointwise [cNext]
  rw [top_word]
  by_cases h : I (ix2 j l) = cArg I D (ix1 l) <;>
    simp [IntOp.cmpi, Scalar.select, h, beq_eq_false_iff_ne.2]

section

variable (I : IVec S256x128 32) (D : FVec Ideal S256x128 .f32) (l : Fin 128) (d : Fin 4096 → EReal) (q : Fin 256 → Fin 4096)
  (hd : ∀ p, d p < ⊤) (hq : Function.Injective q) (hI : ∀ j, I (ix2 j l) = word (q j)) (hD : ∀ j, D (ix2 j l) = d (q j))
include hd hI

/-- From a column as round `t` finds it, the round's least distance and its number. -/
theorem cRound_of (C : FVec Ideal S256x128 .f32) (i : Fin 256) (hC : ∀ j, C (ix2 j l) = col d q (crk d q i) j) :
    cMin C (ix1 l) = d (q i) ∧ cArg I C (ix1 l) = word (q i) := by
  have h : cMin C (ix1 l) = d (q i) := by
    rw [cMin_apply]
    simp only [hC]
    exact min_col d q i
  refine ⟨h, ?_⟩
  rw [cArg_apply, h]
  simp only [hC, hI]
  exact arg_col d q hd i

include hq hD

/-- The chunk before round `t` is the column of Rounds.lean. -/
theorem cAt_col (t : ℕ) (ht : t ≤ 256) (j : Fin 256) : cAt I D t (ix2 j l) = col d q t j := by
  induction t generalizing j with
  | zero => rw [col_zero]; exact hD j
  | succ t ih =>
    obtain ⟨i, hi⟩ := exists_crk d q hq t (by omega)
    have hC := fun j => ih (by omega) j
    rw [← hi] at hC
    have h := cRound_of I l d q hd hI _ i (hC)
    show cNext I (cAt I D t) (ix2 j l) = _
    rw [cNext_apply, ← hi, h.2, hC, hI]
    exact next_col d q hq i j

/-- Round `t` on a chunk finds the chunk's member of rank `t`. -/
theorem cRound (t : ℕ) (ht : t < 256) :
    ∃ i, crk d q i = t ∧ cMin (cAt I D t) (ix1 l) = d (q i) ∧ cArg I (cAt I D t) (ix1 l) = word (q i) := by
  obtain ⟨i, hi⟩ := exists_crk d q hq t ht
  refine ⟨i, hi, cRound_of I l d q hd hI _ i fun j => ?_⟩
  rw [hi]
  exact cAt_col I D l d q hd hq hI hD t ht.le j

end

/-! ## The 320 candidates -/

/-- Each lane's least distance. -/
def mMin (D : FVec Ideal S320x128 .f32) : FVec Ideal S128 .f32 :=
  multiReduction .minimumf [0] S128 D 0x7F800000#32 reduces_S320x128_S128 (.inl rfl) rfl

/-- Each lane's least number among those at the least distance. -/
def mArg (I : IVec S320x128 32) (D : FVec Ideal S320x128 .f32) : IVec S128 32 :=
  multiReductionI .minsi [0] S128
    (select (cmpf .oeq D (broadcastTo S320x128 (shapeCast S1x128 (mMin D) shapeCasts_S128_S1x128) broadcasts_S1x128_S320x128))
      I (broadcast S320x128 4096#32)) 2147483647#32 reduces_S320x128_S128 rfl

/-- The candidates with the found entries overwritten. -/
def mNext (I : IVec S320x128 32) (D : FVec Ideal S320x128 .f32) : FVec Ideal S320x128 .f32 :=
  select (andi
      (cmpf .oeq D (broadcastTo S320x128 (shapeCast S1x128 (mMin D) shapeCasts_S128_S1x128) broadcasts_S1x128_S320x128))
      (cmpi .eq I (broadcastTo S320x128 (shapeCast S1x128 (mArg I D) shapeCasts_S128_S1x128) broadcasts_S1x128_S320x128)))
    (broadcast S320x128 (Scalar.ofBits .f32 0x7F800000#32)) D

/-- The candidates before round `t`. -/
def mAt (I : IVec S320x128 32) (D : FVec Ideal S320x128 .f32) : ℕ → FVec Ideal S320x128 .f32
  | 0 => D
  | t + 1 => mNext I (mAt I D t)

theorem mMin_apply (D : FVec Ideal S320x128 .f32) (l : Fin 128) :
    mMin D (ix1 l) = Finset.univ.fold min (⊤ : EReal) fun j => D (ix2 j l) := by
  pointwise [mMin]
  rw [top_word]

theorem mArg_apply (I : IVec S320x128 32) (D : FVec Ideal S320x128 .f32) (l : Fin 128) :
    mArg I D (ix1 l) = Finset.univ.fold IntOp.minsi 2147483647#32
      fun j => if D (ix2 j l) = mMin D (ix1 l) then I (ix2 j l) else 4096#32 := by
  pointwise [mArg]

theorem mNext_apply (I : IVec S320x128 32) (D : FVec Ideal S320x128 .f32) (j : Fin 320) (l : Fin 128) :
    mNext I D (ix2 j l)
      = if D (ix2 j l) = mMin D (ix1 l) ∧ I (ix2 j l) = mArg I D (ix1 l) then (⊤ : EReal) else D (ix2 j l) := by
  pointwise [mNext]
  rw [top_word]
  by_cases h : I (ix2 j l) = mArg I D (ix1 l) <;> by_cases h' : D (ix2 j l) = mMin D (ix1 l) <;>
    simp [IntOp.cmpi, IntOp.andi, Scalar.select, h, h', beq_eq_false_iff_ne.2]

section

variable (I : IVec S320x128 32) (D : FVec Ideal S320x128 .f32) (l : Fin 128) (d : Fin 4096 → EReal) (q : Fin 320 → Fin 4096)
  (hd : ∀ p, d p < ⊤) (hq : Function.Injective q) (hI : ∀ j, I (ix2 j l) = word (q j)) (hD : ∀ j, D (ix2 j l) = d (q j))
include hd hI

/-- From the candidates as round `t` finds them, the round's least distance and its number. -/
theorem mRound_of (C : FVec Ideal S320x128 .f32) (i : Fin 320) (hC : ∀ j, C (ix2 j l) = col d q (crk d q i) j) :
    mMin C (ix1 l) = d (q i) ∧ mArg I C (ix1 l) = word (q i) := by
  have h : mMin C (ix1 l) = d (q i) := by
    rw [mMin_apply]
    simp only [hC]
    exact min_col d q i
  refine ⟨h, ?_⟩
  rw [mArg_apply, h]
  simp only [hC, hI]
  exact arg_col d q hd i

include hq hD

/-- The candidates before round `t` are the column of Rounds.lean. -/
theorem mAt_col (t : ℕ) (ht : t ≤ 320) (j : Fin 320) : mAt I D t (ix2 j l) = col d q t j := by
  induction t generalizing j with
  | zero => rw [col_zero]; exact hD j
  | succ t ih =>
    obtain ⟨i, hi⟩ := exists_crk d q hq t (by omega)
    have hC := fun j => ih (by omega) j
    rw [← hi] at hC
    have h := mRound_of I l d q hd hI _ i (hC)
    show mNext I (mAt I D t) (ix2 j l) = _
    rw [mNext_apply, ← hi, h.1, h.2, hC, hI]
    exact next_col_both d q hq i j

/-- Round `t` on the candidates finds the candidate of rank `t`. -/
theorem mRound (t : ℕ) (ht : t < 320) : ∃ i, crk d q i = t ∧ mArg I (mAt I D t) (ix1 l) = word (q i) := by
  obtain ⟨i, hi⟩ := exists_crk d q hq t ht
  refine ⟨i, hi, (mRound_of I l d q hd hI _ i fun j => ?_).2⟩
  rw [hi]
  exact mAt_col I D l d q hd hq hI hD t ht.le j

end

end Cert.K2

end
-- ==== Proof.K2Pieces.lean ====
/- What the selection kernel stores, as lists: trip k of its loop over the chunks stores row 20 k + t of each scratch for the
   rounds t < 20, and after the loop round t on the candidates stores row t of the output block. -/
module

public import proofs.«01_k».proof.Proof.K2Round
public import proofs.«01_k».proof.Proof.Gen.KernelIdeal.Frame

@[expose] public section

set_option maxRecDepth 16384

noncomputable section

namespace Cert.K2

open Idealize.ShloMosaic Cert.KernelIdeal Cert.KernelIdeal.Gen
open Idealize.ShloMosaic.TcCoe

theorem trips_eq : k1_t1_loop.trips = 16 := by decide +kernel

/-- Round `t` of trip `k` stores at row `20 k + t`. -/
theorem off2_eq : ∀ (k : Fin k1_t1_loop.trips) (t : Fin 20), k1_off2 k (BitVec.ofNat 32 t.val) = ![20 * k.val + t.val, 0] := by
  decide +kernel

/-- Trip `k` loads from row `256 k`. -/
theorem off1_eq : ∀ k : Fin k1_t1_loop.trips, k1_off1 k = ![0, 256 * k.val, 0] := by
  decide +kernel

theorem off_inb (k : Fin k1_t1_loop.trips) (t : Fin 20) (a : Fin 2) :
    k1_off2 k (BitVec.ofNat 32 t.val) a + (![1, 128] : Fin 2 → ℕ) a ≤ (![320, 128] : Fin 2 → ℕ) a := by
  rw [off2_eq]
  have hk : k.val < 16 := trips_eq ▸ k.isLt
  fin_cases a
  · show 20 * k.val + t.val + 1 ≤ 320
    omega
  · show 0 + 128 ≤ 128
    omega

/-- The rounds of a trip or of the merge, last first. -/
def rounds : List (Fin 20) := [19, 18, 17, 16, 15, 14, 13, 12, 11, 10, 9, 8, 7, 6, 5, 4, 3, 2, 1, 0]

theorem mem_rounds (t : Fin 20) : t ∈ rounds := by revert t; decide

/-- A row of distances, stored by round `t` of trip `k`. -/
def pieceF (I : IVec S256x128 32) (D : FVec Ideal S256x128 .f32) (k : Fin k1_t1_loop.trips) (t : Fin 20) :
    View.Piece (Elt Ideal) S320x128 .f32 :=
  ⟨Rect.unit (k1_off2 k (BitVec.ofNat 32 t.val)) ![1, 128] (off_inb k t),
    shapeCast S1x128 (shapeCast S1x128 (cMin (cAt I D t.val)) shapeCasts_S128_S1x128) shapeCasts_S1x128_S1x128⟩

/-- A row of numbers, stored by round `t` of trip `k`. -/
def pieceI (I : IVec S256x128 32) (D : FVec Ideal S256x128 .f32) (k : Fin k1_t1_loop.trips) (t : Fin 20) :
    View.Piece (Elt Ideal) S320x128 .i32 :=
  ⟨Rect.unit (k1_off2 k (BitVec.ofNat 32 t.val)) ![1, 128] (off_inb k t),
    shapeCast S1x128 (shapeCast S1x128 (cArg I (cAt I D t.val)) shapeCasts_S128_S1x128) shapeCasts_S1x128_S1x128⟩

theorem row_inb (t : Fin 20) (a : Fin 4) :
    (![0, 0, t.val, 0] : Fin 4 → ℕ) a + (![1, 1, 1, 128] : Fin 4 → ℕ) a ≤ (![1, 1, 20, 128] : Fin 4 → ℕ) a := by
  revert t a; decide

/-- A row of the output block, stored by round `t` on the candidates. -/
def pieceO (I : IVec S320x128 32) (D : FVec Ideal S320x128 .f32) (t : Fin 20) : View.Piece (Elt Ideal) S1x1x20x128 .i32 :=
  ⟨Rect.unit ![0, 0, t.val, 0] ![1, 1, 1, 128] (row_inb t),
    shapeCast S1x1x1x128 (mArg I (mAt I D t.val)) shapeCasts_S128_S1x1x1x128⟩

section

variable (c : Dev nD) (i : grid1.Coords)
  (arg2 : Memref sig .tc .vmem S1x4096x128 .f32) (harg2 : arg2.IsWhole) (arg3 : Memref sig .tc .vmem S1x128x128 .f32) (harg3 : arg3.IsWhole)
  (arg4 : Memref sig .tc .vmem S1x1x20x128 .i32) (harg4 : arg4.IsWhole) (arg5 : Memref sig .tc .vmem S320x128 .f32) (harg5 : arg5.IsWhole)
  (arg6 : Memref sig .tc .vmem S320x128 .i32) (harg6 : arg6.IsWhole)
  (v0 : Vec Ideal S1x128x128 .f32) (X : BufTy.Contents (Elt Ideal) arg2.view.ty) (k : Fin k1_t1_loop.trips)

/-- What trip `k` stores in the scratch of distances. -/
theorem trip_f :
    (tripL_k1_t1 (F := Ideal) Variants.none c none i arg2 harg2 arg3 harg3 arg4 harg4 arg5 harg5 arg6 harg6 v0 (Scalar.ofBits .f32 0x7F800000#32) X k).1
      = rounds.map (pieceF (k1_pay4 0#32 1#32 k) (trip_k1_t1.sl.r arg2 v0 X k) k) := by
  unfold tripL_k1_t1 trip_k1_t1; dsimp only; sl_kernel_rfl

/-- What trip `k` stores in the scratch of numbers. -/
theorem trip_i :
    (tripL_k1_t1 (F := Ideal) Variants.none c none i arg2 harg2 arg3 harg3 arg4 harg4 arg5 harg5 arg6 harg6 v0 (Scalar.ofBits .f32 0x7F800000#32) X k).2
      = rounds.map (pieceI (k1_pay4 0#32 1#32 k) (trip_k1_t1.sl.r arg2 v0 X k) k) := by
  unfold tripL_k1_t1 trip_k1_t1; dsimp only; sl_kernel_rfl

end

section

variable (c : Dev nD) (i : grid1.Coords)
  (arg2 : Memref sig .tc .vmem S1x4096x128 .f32) (harg2 : arg2.IsWhole) (arg3 : Memref sig .tc .vmem S1x128x128 .f32) (harg3 : arg3.IsWhole)
  (arg4 : Memref sig .tc .vmem S1x1x20x128 .i32) (harg4 : arg4.IsWhole) (arg5 : Memref sig .tc .vmem S320x128 .f32) (harg5 : arg5.IsWhole)
  (arg6 : Memref sig .tc .vmem S320x128 .i32) (harg6 : arg6.IsWhole) (x0 : Vec Ideal S1x4096x128 .f32) (x1 : Vec Ideal S1x128x128 .f32)

/-- The query block, as the body loads it. -/
def query : Vec Ideal S1x128x128 .f32 :=
  (View.readAt (Elt Ideal) arg3.view (Rect.unit ![0, 0, 0] ![1, 128, 128] inb_S1x128x128_S1x128x128_0_0_0).toLoadRect (harg3.unread x1) :)

/-- All the stores of the loop. -/
def stores : List (View.Piece (Elt Ideal) S320x128 .f32) × List (View.Piece (Elt Ideal) S320x128 .i32) :=
  pb_k1_t1 (F := Ideal) Variants.none c none i arg2 harg2 arg3 harg3 arg4 harg4 arg5 harg5 arg6 harg6 (query arg3 harg3 x1)
    (Scalar.ofBits .f32 0x7F800000#32) (harg2.unread x0) k1_t1_loop.trips

/-- The scratch of distances, as the body loads it after the loop. -/
def vals : Vec Ideal S320x128 .f32 :=
  (arg5.view.readCov (stores c i arg2 harg2 arg3 harg3 arg4 harg4 arg5 harg5 arg6 harg6 x0 x1).1
    (Rect.unit ![0, 0] ![320, 128] inb_S320x128_S320x128_0_0).toLoadRect :)

/-- The scratch of numbers, as the body loads it after the loop. -/
def nums : Vec Ideal S320x128 .i32 :=
  (arg6.view.readCov (stores c i arg2 harg2 arg3 harg3 arg4 harg4 arg5 harg5 arg6 harg6 x0 x1).2
    (Rect.unit ![0, 0] ![320, 128] inb_S320x128_S320x128_0_0).toLoadRect :)

/-- What the body stores in its output block. -/
theorem run_o :
    (kernelRun1_A (F := Ideal) c i arg2 harg2 arg3 harg3 arg4 harg4 arg5 harg5 arg6 harg6 x0 x1).1
      = rounds.map (pieceO (nums c i arg2 harg2 arg3 harg3 arg4 harg4 arg5 harg5 arg6 harg6 x0 x1)
          (vals c i arg2 harg2 arg3 harg3 arg4 harg4 arg5 harg5 arg6 harg6 x0 x1)) := by
  unfold kernelRun1_A nums vals stores query; dsimp only; sl_kernel_rfl

end

end Cert.K2

end
-- ==== Proof.K2Block.lean ====
/- The selection kernel's output block: entry (t, l) is the number of the point that stands at place t when the points are
   ordered by their distance to query l, ties by number. -/
module

public import proofs.«01_k».proof.Proof.K2Pieces
public import Idealize.ShloMosaic.Lib.Pipeline.ValueKit

@[expose] public section

set_option maxRecDepth 16384

noncomputable section

namespace Cert.K2

open Idealize.ShloMosaic Cert.KernelIdeal Cert.KernelIdeal.Gen Cert.Rank Cert.Rounds
open Idealize.ShloMosaic.TcCoe

/-- The squared distance from query `l` to point `p`, as the kernel forms it: `x0` the points, `x1` the queries. -/
def dist (x0 : Vec Ideal S1x4096x128 .f32) (x1 : Vec Ideal S1x128x128 .f32) (l : Fin 128) (p : Fin 4096) : EReal :=
  (∑ x, x1 (ix3 0 l x) * x1 (ix3 0 l x)) - Ideal.ofBits .f32 0x40000000#32 * (∑ x, x0 (ix3 0 p x) * x1 (ix3 0 l x))
    + ∑ x, x0 (ix3 0 p x) * x0 (ix3 0 p x)

/-- Member `j` of chunk `k`. -/
def mem (k : Fin k1_t1_loop.trips) (j : Fin 256) : Fin 4096 :=
  ⟨256 * k.val + j.val, by have := lt_of_lt_of_eq k.isLt trips_eq; omega⟩

theorem mem_injective (k : Fin k1_t1_loop.trips) : Function.Injective (mem k) := fun i j h => by
  have := congrArg Fin.val h
  simp only [mem] at this
  exact Fin.ext (by omega)

/-- Every point is a member of a chunk. -/
theorem exists_mem (p : Fin 4096) : ∃ k j, mem k j = p :=
  ⟨⟨p.val / 256, by rw [trips_eq]; omega⟩, ⟨p.val % 256, by omega⟩, Fin.ext (by simp only [mem]; omega)⟩

/-- The numbers the kernel gives a chunk's members are their numbers among all points. -/
theorem pay4_apply (k : Fin k1_t1_loop.trips) (j : Fin 256) (l : Fin 128) : k1_pay4 0#32 1#32 k (ix2 j l) = word (mem k j) := by
  have h : ∀ k : Fin k1_t1_loop.trips, Scalar.muli (Scf.iv 0#32 1#32 k.val) 256#32 = BitVec.ofNat 32 (256 * k.val) := by
    decide +kernel
  pointwise [k1_pay4]
  rw [h]
  show BitVec.ofNat 32 j.val + BitVec.ofNat 32 (256 * k.val) = BitVec.ofNat 32 (256 * k.val + j.val)
  rw [← BitVec.ofNat_add, Nat.add_comm]

/-- Points among which are the first twenty: a point whose place among them is below twenty has the same place overall. -/
theorem place_of_cand (d : Fin 4096 → EReal) (q : Fin 320 → Fin 4096) (hq : Function.Injective q)
    (hc : ∀ p, rk (byKey d) p < 20 → ∃ r, q r = p) (t : ℕ) (ht : t < 20) (i : Fin 320) (hi : crk d q i = t) :
    rk (byKey d) (q i) = t := by
  obtain ⟨p, hp⟩ := exists_rk (byKey d) (byKey_injective d) t (by rw [Fintype.card_fin]; omega)
  obtain ⟨r, hr⟩ := hc p (by omega)
  have h : crk d q r = t := by
    unfold crk
    rw [rk_comp_eq (byKey d) q hq r fun j hj => hc j ?_, hr, hp]
    rw [hr] at hj
    have := (rk_lt_iff _ _ _).mpr hj
    omega
  have : i = r := rk_injective _ (key_injective d q hq) (hi.trans h.symm)
  rw [this, hr, hp]

section

variable (c : Dev nD) (i : grid1.Coords)
  (arg2 : Memref sig .tc .vmem S1x4096x128 .f32) (harg2 : arg2.IsWhole) (arg3 : Memref sig .tc .vmem S1x128x128 .f32) (harg3 : arg3.IsWhole)
  (arg4 : Memref sig .tc .vmem S1x1x20x128 .i32) (harg4 : arg4.IsWhole) (arg5 : Memref sig .tc .vmem S320x128 .f32) (harg5 : arg5.IsWhole)
  (arg6 : Memref sig .tc .vmem S320x128 .i32) (harg6 : arg6.IsWhole)

section

variable (v0 : Vec Ideal S1x128x128 .f32) (X : BufTy.Contents (Elt Ideal) arg2.view.ty)

/-- The stores of the trips before `n`, in the scratch of distances. -/
theorem mem_pb_f (n : ℕ) (hn : n ≤ k1_t1_loop.trips) (p : View.Piece (Elt Ideal) S320x128 .f32) :
    p ∈ (pb_k1_t1 (F := Ideal) Variants.none c none i arg2 harg2 arg3 harg3 arg4 harg4 arg5 harg5 arg6 harg6 v0
        (Scalar.ofBits .f32 0x7F800000#32) X n).1
      ↔ ∃ k : Fin k1_t1_loop.trips, k.val < n ∧ ∃ t, pieceF (k1_pay4 0#32 1#32 k) (trip_k1_t1.sl.r arg2 v0 X k) k t = p := by
  induction n with
  | zero => simp [pb_k1_t1]
  | succ n ih =>
    have h : pb_k1_t1 (F := Ideal) Variants.none c none i arg2 harg2 arg3 harg3 arg4 harg4 arg5 harg5 arg6 harg6 v0
      (Scalar.ofBits .f32 0x7F800000#32) X (n + 1) = _ := pb_k1_t1_succ (F := Ideal) Variants.none c none i arg2 harg2 arg3 harg3 arg4 harg4 arg5 harg5 arg6 harg6 v0
      (Scalar.ofBits .f32 0x7F800000#32) X ⟨n, hn⟩
    rw [h, trip_f, trip_i]
    dsimp only
    rw [List.mem_append, ih (by omega), List.mem_map]
    constructor
    · rintro (⟨t, _, ht⟩ | ⟨k, hk, t, ht⟩)
      · exact ⟨⟨n, hn⟩, Nat.lt_succ_self n, t, ht⟩
      · exact ⟨k, by omega, t, ht⟩
    · rintro ⟨k, hk, t, ht⟩
      rcases Nat.lt_succ_iff_lt_or_eq.mp hk with h | h
      · exact .inr ⟨k, h, t, ht⟩
      · obtain rfl : k = ⟨n, hn⟩ := Fin.ext h
        exact .inl ⟨t, mem_rounds t, ht⟩

/-- The stores of the trips before `n`, in the scratch of numbers. -/
theorem mem_pb_i (n : ℕ) (hn : n ≤ k1_t1_loop.trips) (p : View.Piece (Elt Ideal) S320x128 .i32) :
    p ∈ (pb_k1_t1 (F := Ideal) Variants.none c none i arg2 harg2 arg3 harg3 arg4 harg4 arg5 harg5 arg6 harg6 v0
        (Scalar.ofBits .f32 0x7F800000#32) X n).2
      ↔ ∃ k : Fin k1_t1_loop.trips, k.val < n ∧ ∃ t, pieceI (k1_pay4 0#32 1#32 k) (trip_k1_t1.sl.r arg2 v0 X k) k t = p := by
  induction n with
  | zero => simp [pb_k1_t1]
  | succ n ih =>
    have h : pb_k1_t1 (F := Ideal) Variants.none c none i arg2 harg2 arg3 harg3 arg4 harg4 arg5 harg5 arg6 harg6 v0
      (Scalar.ofBits .f32 0x7F800000#32) X (n + 1) = _ := pb_k1_t1_succ (F := Ideal) Variants.none c none i arg2 harg2 arg3 harg3 arg4 harg4 arg5 harg5 arg6 harg6 v0
      (Scalar.ofBits .f32 0x7F800000#32) X ⟨n, hn⟩
    rw [h, trip_f, trip_i]
    dsimp only
    rw [List.mem_append, ih (by omega), List.mem_map]
    constructor
    · rintro (⟨t, _, ht⟩ | ⟨k, hk, t, ht⟩)
      · exact ⟨⟨n, hn⟩, Nat.lt_succ_self n, t, ht⟩
      · exact ⟨k, by omega, t, ht⟩
    · rintro ⟨k, hk, t, ht⟩
      rcases Nat.lt_succ_iff_lt_or_eq.mp hk with h | h
      · exact .inr ⟨k, h, t, ht⟩
      · obtain rfl : k = ⟨n, hn⟩ := Fin.ext h
        exact .inl ⟨t, mem_rounds t, ht⟩

end

/-- Row `20 k + t` of a scratch. -/
def row (k : Fin k1_t1_loop.trips) (t : Fin 20) : Fin 320 := ⟨20 * k.val + t.val, by have := lt_of_lt_of_eq k.isLt trips_eq; omega⟩

theorem exists_row (r : Fin 320) : ∃ k t, row k t = r :=
  ⟨⟨r.val / 20, by rw [trips_eq]; omega⟩, ⟨r.val % 20, by omega⟩, Fin.ext (by simp only [row]; omega)⟩

theorem row_inj {k k' : Fin k1_t1_loop.trips} {t t' : Fin 20} (h : row k t = row k' t') : k = k' ∧ t = t' := by
  have := congrArg Fin.val h
  simp only [row] at this
  exact ⟨Fin.ext (by omega), Fin.ext (by omega)⟩

/-- Where a store of round `t` of trip `k` puts its lane `l`. -/
theorem piece_emb (k : Fin k1_t1_loop.trips) (t : Fin 20) (x : (⟨2, ![1, 128]⟩ : Shape).Idx) :
    (Rect.unit (s := S320x128) (k1_off2 k (BitVec.ofNat 32 t.val)) ![1, 128] (off_inb k t)).emb x = ix2 (row k t) (x 1) := by
  funext a
  apply Fin.ext
  rw [Rect.emb_apply]
  show k1_off2 k (BitVec.ofNat 32 t.val) a + 1 * (x a).val = _
  rw [off2_eq]
  have h0 : (x 0).val < 1 := (x 0).isLt
  fin_cases a
  · show 20 * k.val + t.val + 1 * (x 0).val = 20 * k.val + t.val
    omega
  · show 0 + 1 * (x 1).val = (x 1).val
    omega

variable (x0 : Vec Ideal S1x4096x128 .f32) (x1 : Vec Ideal S1x128x128 .f32)

/-- The distances of chunk `k`. -/
def chunk (k : Fin k1_t1_loop.trips) : FVec Ideal S256x128 .f32 :=
  trip_k1_t1.sl.r arg2 (query arg3 harg3 x1) (harg2.unread x0) k

theorem whole_idx (r : Fin 320) (l : Fin 128) :
    (Rect.unit (s := S320x128) ![0, 0] ![320, 128] inb_S320x128_S320x128_0_0).toLoadRect.idx (ix2 r l) = ix2 r l := by
  funext a
  apply Fin.ext
  fin_cases a
  · show 0 + 1 * r.val = r.val
    omega
  · show 0 + 1 * l.val = l.val
    omega

/-- The distances the merge finds in row `20 k + t`. -/
theorem vals_apply (k : Fin k1_t1_loop.trips) (t : Fin 20) (l : Fin 128) :
    vals c i arg2 harg2 arg3 harg3 arg4 harg4 arg5 harg5 arg6 harg6 x0 x1 (ix2 (row k t) l)
      = cMin (cAt (k1_pay4 0#32 1#32 k) (chunk arg2 harg2 arg3 harg3 x0 x1 k) t.val) (ix1 l) := by
  unfold vals
  rw [View.readCov_eq_canon']
  show View.canon _ ((Rect.unit (s := S320x128) ![0, 0] ![320, 128] inb_S320x128_S320x128_0_0).toLoadRect.idx (ix2 (row k t) l)) = _
  rw [whole_idx]
  unfold stores
  refine View.canon_eq_of_allAt _ _ _ ?_ ?_
  · refine ⟨_, (mem_pb_f c i arg2 harg2 arg3 harg3 arg4 harg4 arg5 harg5 arg6 harg6 _ _ _ le_rfl _).mpr ⟨k, k.isLt, t, rfl⟩, ?_⟩
    exact (piece_emb k t (ix2 0 l)) ▸ LoadRect.idx_mem _ _
  · intro p hp
    obtain ⟨k', _, t', rfl⟩ := (mem_pb_f c i arg2 harg2 arg3 harg3 arg4 harg4 arg5 harg5 arg6 harg6 _ _ _ le_rfl _).mp hp
    intro x hx
    have hx := (piece_emb k' t' x).symm.trans hx
    obtain ⟨rfl, rfl⟩ := row_inj (congrFun hx 0)
    obtain rfl : x 1 = l := congrFun hx 1
    rw [eq_ix2 x]
    pointwise [pieceF]
    rfl

/-- The numbers the merge finds in row `20 k + t`. -/
theorem nums_apply (k : Fin k1_t1_loop.trips) (t : Fin 20) (l : Fin 128) :
    nums c i arg2 harg2 arg3 harg3 arg4 harg4 arg5 harg5 arg6 harg6 x0 x1 (ix2 (row k t) l)
      = cArg (k1_pay4 0#32 1#32 k) (cAt (k1_pay4 0#32 1#32 k) (chunk arg2 harg2 arg3 harg3 x0 x1 k) t.val) (ix1 l) := by
  unfold nums
  rw [View.readCov_eq_canon']
  show View.canon _ ((Rect.unit (s := S320x128) ![0, 0] ![320, 128] inb_S320x128_S320x128_0_0).toLoadRect.idx (ix2 (row k t) l)) = _
  rw [whole_idx]
  unfold stores
  refine View.canon_eq_of_allAt _ _ _ ?_ ?_
  · refine ⟨_, (mem_pb_i c i arg2 harg2 arg3 harg3 arg4 harg4 arg5 harg5 arg6 harg6 _ _ _ le_rfl _).mpr ⟨k, k.isLt, t, rfl⟩, ?_⟩
    exact (piece_emb k t (ix2 0 l)) ▸ LoadRect.idx_mem _ _
  · intro p hp
    obtain ⟨k', _, t', rfl⟩ := (mem_pb_i c i arg2 harg2 arg3 harg3 arg4 harg4 arg5 harg5 arg6 harg6 _ _ _ le_rfl _).mp hp
    intro x hx
    have hx := (piece_emb k' t' x).symm.trans hx
    obtain ⟨rfl, rfl⟩ := row_inj (congrFun hx 0)
    obtain rfl : x 1 = l := congrFun hx 1
    rw [eq_ix2 x]
    pointwise [pieceI]
    rfl

theorem off1_inb (k : Fin k1_t1_loop.trips) (a : Fin 3) :
    k1_off1 k a + (![1, 256, 128] : Fin 3 → ℕ) a ≤ (![1, 4096, 128] : Fin 3 → ℕ) a := by
  rw [off1_eq]
  have hk := lt_of_lt_of_eq k.isLt trips_eq
  fin_cases a
  · show 0 + 1 ≤ 1
    omega
  · show 256 * k.val + 256 ≤ 4096
    omega
  · show 0 + 128 ≤ 128
    omega

/-- The points of chunk `k`, as the body loads them. -/
def points (k : Fin k1_t1_loop.trips) : Vec Ideal S1x256x128 .f32 :=
  (View.readAt (Elt Ideal) arg2.view (Rect.unit (s := S1x4096x128) (k1_off1 k) ![1, 256, 128] (off1_inb k)).toLoadRect (harg2.unread x0) :)

theorem points_apply (k : Fin k1_t1_loop.trips) (j : Fin 256) (b : Fin 128) :
    points arg2 harg2 x0 k (ix3 0 j b) = x0 (ix3 0 (mem k j) b) := by
  unfold points
  rw [View.readAt_apply, harg2.read_unread]
  congr 1
  funext d
  apply Fin.ext
  have h : ∀ e, k1_off1 k d + e = (![0, 256 * k.val, 0] : Fin 3 → ℕ) d + e := fun e => by rw [off1_eq]
  refine (h _).trans ?_
  fin_cases d
  · rfl
  · show 256 * k.val + 1 * j.val = 256 * k.val + j.val
    omega
  · show 0 + 1 * b.val = b.val
    omega

theorem chunk_eq (k : Fin k1_t1_loop.trips) :
    chunk arg2 harg2 arg3 harg3 x0 x1 k
      = k1_pay3 (k1_pay108 (query arg3 harg3 x1)) (k1_pay109 (query arg3 harg3 x1)) (points arg2 harg2 x0 k) := rfl

/-- The chunk's entries are the distances of its members. -/
theorem chunk_apply (k : Fin k1_t1_loop.trips) (j : Fin 256) (l : Fin 128) :
    chunk arg2 harg2 arg3 harg3 x0 x1 k (ix2 j l) = dist x0 x1 l (mem k j) := by
  have hq : ∀ a b : Fin 128, query arg3 harg3 x1 (ix3 0 a b) = x1 (ix3 0 a b) := fun a b => by
    unfold query
    rw [View.readAt_apply, harg3.read_unread]
    congr 1
    funext d
    apply Fin.ext
    fin_cases d <;> (show 0 + 1 * _ = _; omega)
  rw [chunk_eq]
  pointwise [k1_pay3, k1_pay108, k1_pay109]
  simp only [hq, points_apply]
  rfl

theorem piece_emb_o (t : Fin 20) (x : (⟨4, ![1, 1, 1, 128]⟩ : Shape).Idx) :
    (Rect.unit (s := S1x1x20x128) ![0, 0, t.val, 0] ![1, 1, 1, 128] (row_inb t)).emb x = ix4 0 0 t (x 3) := by
  have h0 : (x 0).val < 1 := (x 0).isLt
  have h1 : (x 1).val < 1 := (x 1).isLt
  have h2 : (x 2).val < 1 := (x 2).isLt
  funext a
  apply Fin.ext
  rw [Rect.emb_apply]
  fin_cases a
  · show 0 + 1 * (x 0).val = 0
    omega
  · show 0 + 1 * (x 1).val = 0
    omega
  · show t.val + 1 * (x 2).val = t.val
    omega
  · show 0 + 1 * (x 3).val = (x 3).val
    omega

/-- Entry (t, l) of the output block is what round `t` on the candidates finds. -/
theorem out_round (t : Fin 20) (l : Fin 128) :
    out1_A_2 (F := Ideal) c i arg2 harg2 arg3 harg3 arg4 harg4 arg5 harg5 arg6 harg6 x0 x1 (ix4 0 0 t l)
      = mArg (nums c i arg2 harg2 arg3 harg3 arg4 harg4 arg5 harg5 arg6 harg6 x0 x1)
          (mAt (nums c i arg2 harg2 arg3 harg3 arg4 harg4 arg5 harg5 arg6 harg6 x0 x1)
            (vals c i arg2 harg2 arg3 harg3 arg4 harg4 arg5 harg5 arg6 harg6 x0 x1) t.val) (ix1 l) := by
  unfold out1_A_2
  rw [View.read_writes_junk_eq_canon, run_o]
  refine View.canon_eq_of_allAt _ _ _ ?_ ?_
  · refine ⟨_, List.mem_map.mpr ⟨t, mem_rounds t, rfl⟩, ?_⟩
    exact (piece_emb_o t (ix4 0 0 0 l)) ▸ LoadRect.idx_mem _ _
  · intro p hp
    obtain ⟨t', _, rfl⟩ := List.mem_map.mp hp
    intro x hx
    have hx := (piece_emb_o t' x).symm.trans hx
    obtain rfl : t' = t := congrFun hx 2
    obtain rfl : x 3 = l := congrFun hx 3
    rw [eq_ix4 x]
    pointwise [pieceO]

/-- Entry (t, l) of the output block is the number of the point at place `t` by distance to query `l`, ties by number. -/
theorem out_place (t : Fin 20) (l : Fin 128) (hd : ∀ p, dist x0 x1 l p < ⊤) (p : Fin 4096)
    (hp : rk (byKey (dist x0 x1 l)) p = t.val) :
    out1_A_2 (F := Ideal) c i arg2 harg2 arg3 harg3 arg4 harg4 arg5 harg5 arg6 harg6 x0 x1 (ix4 0 0 t l) = word p := by
  have hr : ∀ r : Fin 320, ∃ k t, row k t = r ∧ ∃ j, crk (dist x0 x1 l) (mem k) j = t.val
      ∧ vals c i arg2 harg2 arg3 harg3 arg4 harg4 arg5 harg5 arg6 harg6 x0 x1 (ix2 r l) = dist x0 x1 l (mem k j)
      ∧ nums c i arg2 harg2 arg3 harg3 arg4 harg4 arg5 harg5 arg6 harg6 x0 x1 (ix2 r l) = word (mem k j) := fun r => by
    obtain ⟨k, t, rfl⟩ := exists_row r
    obtain ⟨j, h1, h2, h3⟩ := cRound (k1_pay4 0#32 1#32 k) (chunk arg2 harg2 arg3 harg3 x0 x1 k) l (dist x0 x1 l) (mem k) hd
      (mem_injective k) (fun j => pay4_apply k j l) (fun j => chunk_apply arg2 harg2 arg3 harg3 x0 x1 k j l) t.val (by omega)
    exact ⟨k, t, rfl, j, h1, (vals_apply ..).trans h2, (nums_apply ..).trans h3⟩
  choose K T hrow J hcrk hval hnum using hr
  have hq : Function.Injective fun r => mem (K r) (J r) := fun r r' h => by
    have h' := congrArg Fin.val h
    simp only [mem] at h'
    have hk : K r = K r' := Fin.ext (by omega)
    have hj : J r = J r' := Fin.ext (by omega)
    have ht : T r = T r' := Fin.ext (by rw [← hcrk r, ← hcrk r', hk, hj])
    rw [← hrow r, ← hrow r', hk, ht]
  have hc : ∀ p, rk (byKey (dist x0 x1 l)) p < 20 → ∃ r, mem (K r) (J r) = p := fun p h => by
    obtain ⟨k, j, rfl⟩ := exists_mem p
    have hle : crk (dist x0 x1 l) (mem k) j ≤ _ := rk_comp_le (byKey (dist x0 x1 l)) (mem k) (mem_injective k) j
    refine ⟨row k ⟨_, lt_of_le_of_lt hle h⟩, ?_⟩
    obtain ⟨h1, h2⟩ := row_inj (hrow (row k ⟨_, lt_of_le_of_lt hle h⟩))
    have h3 := hcrk (row k ⟨_, lt_of_le_of_lt hle h⟩)
    rw [h1, h2] at h3
    rw [h1, rk_injective _ (key_injective (dist x0 x1 l) (mem k) (mem_injective k)) h3]
  obtain ⟨r, h1, h2⟩ := mRound _ (vals c i arg2 harg2 arg3 harg3 arg4 harg4 arg5 harg5 arg6 harg6 x0 x1) l (dist x0 x1 l)
    (fun r => mem (K r) (J r)) hd hq hnum hval t.val (by omega)
  rw [out_round, h2]
  have := place_of_cand (dist x0 x1 l) _ hq hc t.val t.isLt r h1
  exact congrArg word (rk_injective _ (byKey_injective _) (this.trans hp.symm))

end

end Cert.K2

end
-- ==== Proof.K2Array.lean ====
/- The array the selection kernel leaves: entry (b, i, t, l) is the number of the point of batch b that stands at place t
   when the points are ordered by their distance to query 128 i + l, ties by number. -/
module

public import proofs.«01_k».proof.Proof.K2Block

@[expose] public section

set_option maxRecDepth 16384

noncomputable section

namespace Cert.K2

open Idealize.ShloMosaic Cert.KernelIdeal Cert.KernelIdeal.Gen Cert.Rank Cert.Rounds
open Idealize.ShloMosaic.TcCoe

/-- The squared distance from point `n` to point `p` of batch `b`. -/
def distX (x : S2x4096x128.Idx → EReal) (b : Fin 2) (n p : Fin 4096) : EReal :=
  (∑ f, x (ix3 b n f) * x (ix3 b n f)) - Ideal.ofBits .f32 0x40000000#32 * (∑ f, x (ix3 b p f) * x (ix3 b n f))
    + ∑ f, x (ix3 b p f) * x (ix3 b p f)

/-- The point at place `t` by distance to point `n`. -/
def near (x : S2x4096x128.Idx → EReal) (b : Fin 2) (n : Fin 4096) (t : Fin 20) : Fin 4096 :=
  place (distX x b n) ⟨t.val, by omega⟩

/-- The array of numbers. -/
def nearArr (x : S2x4096x128.Idx → EReal) : S2x32x20x128.Idx → BitVec 32 := fun j =>
  word (near x (j 0) ⟨128 * (j 1).val + (j 3).val, by have := (j 1).isLt; have := (j 3).isLt; simp at *; omega⟩ (j 2))

variable (V : (c : Dev nD) → (b : Ref sig .tc) → Buf (Elt Ideal) ((c : Thread nD τ).loc b))

theorem win1_0_index : ∀ t : Fin grid1.N, win1_0.index t = ![(grid1.coords t 0).val, 0, 0] := by decide +kernel
theorem win1_1_index : ∀ t : Fin grid1.N, win1_1.index t = ![(grid1.coords t 0).val, (grid1.coords t 1).val, 0] := by decide +kernel
theorem win1_2_index : ∀ t : Fin grid1.N, win1_2.index t = ![(grid1.coords t 0).val, (grid1.coords t 1).val, 0, 0] := by decide +kernel

theorem split_row (y : S1x1x20x128.Idx) : ∃ (s : Fin 20) (l : Fin 128), y = ix4 0 0 s l := by
  refine ⟨y 2, y 3, (eq_ix4 y).trans ?_⟩
  exact congrArg₂ (fun a b => ix4 (n0 := 1) (n1 := 1) a b (y 2) (y 3))
    (Subsingleton.elim (α := Fin 1) (y 0) 0) (Subsingleton.elim (α := Fin 1) (y 1) 0)

/-- The points of batch b, as window 0 stages them. -/
theorem iblk1_0_apply (c : Dev nD) (t : Fin grid1.N) (p : Fin 4096) (f : Fin 128) :
    (iblk1 V c 0 t : Vec Ideal S1x4096x128 .f32) (ix3 0 p f) = V c main_v1 (ix3 (grid1.coords t 0) p f) := by
  blk_simp [iblk1]
  congr 1
  blk_ext [win1_0_index]

/-- The queries of block i, as window 1 stages them. -/
theorem iblk1_1_apply (c : Dev nD) (t : Fin grid1.N) (l : Fin 128) (f : Fin 128) (n : Fin 4096)
    (hn : n.val = 128 * (grid1.coords t 1).val + l.val) :
    (iblk1 V c 1 t : Vec Ideal S1x128x128 .f32) (ix3 0 l f) = V c main_v1 (ix3 (grid1.coords t 0) n f) := by
  blk_simp [iblk1]
  congr 1
  blk_ext [win1_1_index]

/-- The array of numbers, after the selection kernel's run on the points `V c main_v1`. -/
theorem near_array (c : Dev nD) (hd : ∀ b n p, distX (V c main_v1) b n p < ⊤) :
    (dat1 V c).arrAt 2 cfg1.N = nearArr (V c main_v1) := by
  refine (dat1 V c).arrAt_eq_of_covers 2 _ (by decide +kernel) fun t hf y => ?_
  blk_simp
  rw [after1_2]
  unfold outsAt1
  obtain ⟨s, l, rfl⟩ : ∃ (s : Fin 20) (l : Fin 128), y = ix4 0 0 s l :=
    split_row y
  have hi : (grid1.coords t 1).val < 32 := (grid1.coords t 1).isLt
  have he : (win1_2.blk t).view.emb (ix4 0 0 s l : S1x1x20x128.Idx) = ix4 (grid1.coords t 0) (grid1.coords t 1) s l := by
    blk_ext [win1_2_index]
  obtain ⟨n, hn⟩ : ∃ n : Fin 4096, n.val = 128 * (grid1.coords t 1).val + l.val := ⟨⟨_, by omega⟩, rfl⟩
  have hdist : ∀ p, dist (iblk1 V c 0 t) (iblk1 V c 1 t) l p = distX (V c main_v1) (grid1.coords t 0) n p := fun p => by
    unfold dist distX
    simp only [iblk1_0_apply, iblk1_1_apply V c t l _ n hn]
  have hdist' := funext hdist
  refine (out_place c _ _ _ _ _ _ _ _ _ _ _ (iblk1 V c 0 t) (iblk1 V c 1 t) s l (fun p => ?_)
    (near (V c main_v1) (grid1.coords t 0) n s) ?_).trans ?_
  · rw [hdist]
    exact hd _ _ _
  · rw [hdist']
    exact rk_place _ _
  · rw [he]
    unfold nearArr
    congr 2
    exact Fin.ext hn

end Cert.K2

end
-- ==== Proof.Sums.lean ====
/- A sum over the first two of three axes, entry by entry. -/
module

public import Idealize.ShloMosaic.Lib.Pointwise

@[expose] public section

noncomputable section

namespace Cert.Sums

open Idealize.ShloMosaic

/-- A sum over the source indices that drop to `j`, through a numbering of them. -/
theorem sum_of_fiber {s t : Shape} {axes : List (Fin s.rank)} (h : s.Reduces axes t) (v : s.Idx → EReal) (j : t.Idx) {κ : Type}
    [Fintype κ] (g : κ → s.Idx) (hg : ∀ a b, g a = g b → a = b) (hd : ∀ i, h.drop i = j ↔ ∃ k, g k = i) :
    Ideal.reduceAdd h v j = ∑ k, v (g k) :=
  Finset.sum_filter_eq_sum_of_fiber _ g hg hd v

/-- The same for the host's sum. -/
theorem host_sum_of_fiber {s t : Shape} {axes : List (Fin s.rank)} (h : s.ReducesTo axes t) (v : s.Idx → EReal) (init : EReal) (j : t.Idx)
    {κ : Type} [Fintype κ] (g : κ → s.Idx) (hg : ∀ a b, g a = g b → a = b) (hd : ∀ i, h.drop i = j ↔ ∃ k, g k = i) :
    Ideal.hostReduceAdd h v init j = init + ∑ k, v (g k) :=
  congrArg (init + ·) (Finset.sum_filter_eq_sum_of_fiber _ g hg hd v)

/-- A sum over the first two of three axes. -/
theorem sum_axes01 {n0 n1 n2 : ℕ} (h : (⟨3, ![n0, n1, n2]⟩ : Shape).Reduces [0, 1] ⟨1, ![n2]⟩)
    (v : (⟨3, ![n0, n1, n2]⟩ : Shape).Idx → EReal) (j : (⟨1, ![n2]⟩ : Shape).Idx) :
    Ideal.reduceAdd h v j = ∑ b : Fin n0, ∑ n : Fin n1, v (ix3 b n (j 0)) := by
  have hdrop : ∀ i, h.drop i = j ↔ ∃ k : Fin n0 × Fin n1, ix3 k.1 k.2 (j 0) = i := fun i => by
    constructor
    · rintro rfl
      exact ⟨(i 0, i 1), (eq_ix3 i).symm⟩
    · rintro ⟨k, rfl⟩
      funext a
      fin_cases a
      rfl
  rw [sum_of_fiber h v j (fun k : Fin n0 × Fin n1 => ix3 k.1 k.2 (j 0))
    (fun _ _ e => Prod.ext (congrFun e 0) (congrFun e 1)) hdrop]
  simp only [Fintype.sum_prod_type]

/-- The host's sum over the first and the last two of four axes. -/
theorem sum_axes023 {n0 n1 n2 n3 : ℕ} (h : (⟨4, ![n0, n1, n2, n3]⟩ : Shape).ReducesTo [0, 2, 3] ⟨1, ![n1]⟩)
    (v : (⟨4, ![n0, n1, n2, n3]⟩ : Shape).Idx → EReal) (init : EReal) (j : (⟨1, ![n1]⟩ : Shape).Idx) :
    Ideal.hostReduceAdd h v init j = init + ∑ b : Fin n0, ∑ n : Fin n2, ∑ k : Fin n3, v (ix4 b (j 0) n k) := by
  have hdrop : ∀ i, h.drop i = j ↔ ∃ k : Fin n0 × Fin n2 × Fin n3, ix4 k.1 (j 0) k.2.1 k.2.2 = i := fun i => by
    constructor
    · rintro rfl
      exact ⟨(i 0, i 2, i 3), (eq_ix4 i).symm⟩
    · rintro ⟨k, rfl⟩
      funext a
      fin_cases a
      rfl
  rw [host_sum_of_fiber h v init j (fun k : Fin n0 × Fin n2 × Fin n3 => ix4 k.1 (j 0) k.2.1 k.2.2)
    (fun _ _ e => Prod.ext (congrFun e 0) (Prod.ext (congrFun e 2) (congrFun e 3))) hdrop]
  simp only [Fintype.sum_prod_type]

end Cert.Sums

end
-- ==== Proof.KernelHost.lean ====
/- What the kernel's host operations compute from the buffers they read: the point array and the weight blocks, the
   neighbours' products gathered and reduced over the neighbours, and the final layout. -/
module

public import proofs.«01_k».proof.Proof.Gen.KernelIdeal.Frame
public import proofs.«01_k».proof.Proof.K2Array
public import proofs.«01_k».proof.Proof.Sums
public import Idealize.ShloMosaic.Lib.StableHlo.ReadAt
public import Idealize.ShloMosaic.Lib.Tactic.WordOmega

@[expose] public section

set_option maxRecDepth 16384

noncomputable section

namespace Cert.KernelHost

open Idealize.ShloMosaic Cert.KernelIdeal Cert.KernelIdeal.Gen Cert.Rounds
open Idealize.ShloMosaic.TcCoe

variable (W : Valuation τ sig (Elt Ideal))

/-- The point array: the input with the feature axis moved last. -/
def pts (x : S2x128x4096x1.Idx → EReal) : S2x4096x128.Idx → EReal := fun j => x (ix4 (j 0) (j 2) (j 1) 0)

theorem v1_read : (StableHlo.after hostOps0 W (Proc.devRef .tc main_v1) : S2x4096x128.Idx → EReal) = pts (W (Proc.devRef .tc main_arg0)) := by
  funext j
  unfold pts
  after_reads_at

/-- The weights of the neighbour's features. -/
def wRight (w : S256x256.Idx → EReal) : S256x128.Idx → EReal := fun j => w (ix2 (j 0) ⟨128 + (j 1).val, by have : (j 1).val < 128 := (j 1).isLt; omega⟩)

/-- The weights of the point's features less those of the neighbour's. -/
def wDiff (w : S256x256.Idx → EReal) : S256x128.Idx → EReal := fun j =>
  w (ix2 (j 0) ⟨(j 1).val, by have : (j 1).val < 128 := (j 1).isLt; omega⟩) - w (ix2 (j 0) ⟨128 + (j 1).val, by have : (j 1).val < 128 := (j 1).isLt; omega⟩)

theorem v3_read : (StableHlo.after hostOps0 W (Proc.devRef .tc main_v3) : S256x128.Idx → EReal) = wRight (W (Proc.devRef .tc main_arg1)) := by
  funext j
  obtain ⟨o, f, rfl⟩ : ∃ o f, j = ix2 o f := ⟨_, _, eq_ix2 j⟩
  unfold wRight
  after_reads_at

theorem v4_read : (StableHlo.after hostOps0 W (Proc.devRef .tc main_v4) : S256x128.Idx → EReal) = wDiff (W (Proc.devRef .tc main_arg1)) := by
  funext j
  obtain ⟨o, f, rfl⟩ : ∃ o f, j = ix2 o f := ⟨_, _, eq_ix2 j⟩
  unfold wDiff
  after_reads_at

theorem v23_read (b : Fin 2) (o : Fin 256) (n : Fin 4096) :
    (StableHlo.after hostOps4 W (Proc.devRef .tc main_v23) : S2x256x4096x1.Idx → EReal) (ix4 b o n 0)
      = (W (Proc.devRef .tc main_v21) : S2x4096x256.Idx → EReal) (ix3 b n o) := by
  after_reads_at

/-- A word below 4096 is not negative, so the wrap of negative indices keeps it. -/
theorem wrap_word (p : Fin 4096) : Scalar.select (IntOp.cmpi .slt (word p) 0#32) (IntOp.addi (word p) 4096#32) (word p) = word p := by
  have h : (word p).toInt = p.val := toInt_word p
  have : ¬ (word p).toInt < (0#32 : BitVec 32).toInt := by rw [h]; simp
  generalize word p = v at *
  word_omega

theorem v14_read (b : Fin 2) (n : Fin 4096) (t : Fin 20) (p : Fin 4096)
    (h : (W (Proc.devRef .tc main_v6) : S2x32x20x128.Idx → BitVec 32) (ix4 b ⟨n.val / 128, by omega⟩ t ⟨n.val % 128, by omega⟩) = word p) :
    (StableHlo.after hostOps2 W (Proc.devRef .tc main_v14) : S2x4096x20x1.Idx → BitVec 32) (ix4 b n t 0) = word p := by
  after_reads_at
  rw [h]
  exact wrap_word p

/-- The gather reads the row that the index word names. -/
theorem gather_read (z : S2x4096x256.Idx → EReal) (i : S2x4096x20x1.Idx → BitVec 32) (b : Fin 2) (n : Fin 4096) (t : Fin 20) (o : Fin 256)
    (p : Fin 4096) (h : i (ix4 b n t 0) = word p) :
    Host.gather gather_S2x4096x256_S2x4096x20x1_S2x4096x20x256_3_1_0_0_1_3_11256 z i (ix4 b n t o) = z (ix3 b p o) := by
  unfold Host.gather
  refine congrArg z (funext fun a => Fin.ext ?_)
  match a with
  | ⟨0, _⟩ => show 0 + b.val + 0 = b.val; omega
  | ⟨1, _⟩ =>
    have hs : gather_S2x4096x256_S2x4096x20x1_S2x4096x20x256_3_1_0_0_1_3_11256.siIdx (ix4 b n t o) ⟨0, by decide⟩ = ix4 b n t 0 := by
      funext a; apply Fin.ext
      match a with
      | ⟨0, _⟩ => rfl
      | ⟨1, _⟩ => rfl
      | ⟨2, _⟩ => rfl
      | ⟨3, _⟩ => rfl
    show min (i (gather_S2x4096x256_S2x4096x20x1_S2x4096x20x256_3_1_0_0_1_3_11256.siIdx (ix4 b n t o) ⟨0, by decide⟩)).toInt.toNat (4096 - 1) + 0 + 0 = p.val
    rw [hs, h, toInt_word]
    omega
  | ⟨2, _⟩ => show 0 + 0 + o.val = o.val; omega

/-- The rows the neighbours name, one after another. -/
def rows (z : S2x4096x256.Idx → EReal) (i : S2x4096x20x1.Idx → BitVec 32) : S2x4096x20x256.Idx → EReal :=
  Host.gather gather_S2x4096x256_S2x4096x20x1_S2x4096x20x256_3_1_0_0_1_3_11256 z i

/-- The sum of the neighbours' products. -/
def sumArr (z : S2x4096x256.Idx → EReal) (nr : Fin 2 → Fin 4096 → Fin 20 → Fin 4096) : S2x4096x256.Idx → EReal := fun j =>
  ∑ t, z (ix3 (j 0) (nr (j 0) (j 1) t) (j 2))

/-- The sum of the squares of the neighbours' products. -/
def sqArr (z : S2x4096x256.Idx → EReal) (nr : Fin 2 → Fin 4096 → Fin 20 → Fin 4096) : S2x4096x256.Idx → EReal := fun j =>
  ∑ t, z (ix3 (j 0) (nr (j 0) (j 1) t) (j 2)) * z (ix3 (j 0) (nr (j 0) (j 1) t) (j 2))

/-- The largest of the neighbours' products. -/
def maxArr (z : S2x4096x256.Idx → EReal) (nr : Fin 2 → Fin 4096 → Fin 20 → Fin 4096) : S2x4096x256.Idx → EReal := fun j =>
  Finset.univ.fold max ⊥ fun t => z (ix3 (j 0) (nr (j 0) (j 1) t) (j 2))

section
variable (z : S2x4096x256.Idx → EReal) (nr : Fin 2 → Fin 4096 → Fin 20 → Fin 4096)
  (hz : (W (Proc.devRef .tc main_v5_1) : S2x4096x256.Idx → EReal) = z)
  (h : ∀ b n t, (StableHlo.after hostOps2 W (Proc.devRef .tc main_v14) : S2x4096x20x1.Idx → BitVec 32) (ix4 b n t 0) = word (nr b n t))

include hz h

theorem v16_read : (StableHlo.after hostOps2 W (Proc.devRef .tc main_v16) : S2x4096x256.Idx → EReal) = sumArr z nr := by
  have e : (StableHlo.after hostOps2 W (Proc.devRef .tc main_v16) : S2x4096x256.Idx → EReal)
      = Host.reduceAdd (F := Ideal) (φ := .f32) (rows z
          (StableHlo.after hostOps2 W (Proc.devRef .tc main_v14) : S2x4096x20x1.Idx → BitVec 32))
        (constant (F := Ideal) S_ .f32 0x00000000#32) reducesTo_S2x4096x20x256_S2x4096x256_d2 h_S_ := by
    rw [← hz]
    after_reads_simp
    rfl
  rw [e]
  funext j
  obtain ⟨b, n, o, rfl⟩ : ∃ b n o, j = ix3 b n o := ⟨_, _, _, eq_ix3 j⟩
  pointwise
  exact Finset.sum_congr rfl fun t _ => gather_read z _ b n t o _ (h b n t)

theorem v18_read : (StableHlo.after hostOps2 W (Proc.devRef .tc main_v18) : S2x4096x256.Idx → EReal) = sqArr z nr := by
  have e : (StableHlo.after hostOps2 W (Proc.devRef .tc main_v18) : S2x4096x256.Idx → EReal)
      = Host.reduceAdd (F := Ideal) (φ := .f32) (mulf (F := Ideal) (φ := .f32) (rows z
          (StableHlo.after hostOps2 W (Proc.devRef .tc main_v14) : S2x4096x20x1.Idx → BitVec 32)) (rows z
          (StableHlo.after hostOps2 W (Proc.devRef .tc main_v14) : S2x4096x20x1.Idx → BitVec 32)))
        (constant (F := Ideal) S_ .f32 0x00000000#32) reducesTo_S2x4096x20x256_S2x4096x256_d2 h_S_ := by
    rw [← hz]
    after_reads_simp
    rfl
  rw [e]
  funext j
  obtain ⟨b, n, o, rfl⟩ : ∃ b n o, j = ix3 b n o := ⟨_, _, _, eq_ix3 j⟩
  pointwise
  exact Finset.sum_congr rfl fun t _ => by
    rw [show rows z _ _ = _ from gather_read z _ b n t o _ (h b n t)]; rfl

theorem v19_read : (StableHlo.after hostOps2 W (Proc.devRef .tc main_v19) : S2x4096x256.Idx → EReal) = maxArr z nr := by
  have e : (StableHlo.after hostOps2 W (Proc.devRef .tc main_v19) : S2x4096x256.Idx → EReal)
      = Host.reduce (FloatOps.maximumf (F := Ideal) (φ := .f32)) (rows z
          (StableHlo.after hostOps2 W (Proc.devRef .tc main_v14) : S2x4096x20x1.Idx → BitVec 32))
        (constant (F := Ideal) S_ .f32 0xFF800000#32) reducesTo_S2x4096x20x256_S2x4096x256_d2 h_S_ := by
    rw [← hz]
    after_reads_simp
    rfl
  rw [e]
  funext j
  obtain ⟨b, n, o, rfl⟩ : ∃ b n o, j = ix3 b n o := ⟨_, _, _, eq_ix3 j⟩
  pointwise
  rw [show Ideal.ofBits .f32 0xFF800000#32 = ⊥ by simp [Ideal.ofBits, Ideal.ieee]]
  exact Finset.fold_congr fun t _ => gather_read z _ b n t o _ (h b n t)

end

end Cert.KernelHost
-- ==== Proof.Arrays.lean ====
/- The arrays the other three kernels leave: the two products of the points with the weights, the batch mean and inverse
   deviation of each channel, and the normalised, rectified maximum. -/
module

public import proofs.«01_k».proof.Proof.Gen.KernelIdeal.Frame
public import proofs.«01_k».proof.Proof.Sums
public import Idealize.ShloMosaic.Lib.Pipeline.ValueKit

@[expose] public section

set_option maxRecDepth 16384

noncomputable section

namespace Cert.Arrays

open Idealize.ShloMosaic Cert.KernelIdeal Cert.KernelIdeal.Gen Cert.Sums
open Idealize.ShloMosaic.TcCoe

variable (V : (c : Dev nD) → (b : Ref sig .tc) → Buf (Elt Ideal) ((c : Thread nD τ).loc b))

theorem win0_0_index : ∀ t : Fin grid0.N, win0_0.index t = ![(grid0.coords t 0).val, (grid0.coords t 1).val, 0] := by decide +kernel
theorem win0_1_index : ∀ t : Fin grid0.N, win0_1.index t = ![0, 0] := by decide +kernel
theorem win0_2_index : ∀ t : Fin grid0.N, win0_2.index t = ![0, 0] := by decide +kernel
theorem win0_3_index : ∀ t : Fin grid0.N, win0_3.index t = ![0] := by decide +kernel
theorem win0_4_index : ∀ t : Fin grid0.N, win0_4.index t = ![(grid0.coords t 0).val, (grid0.coords t 1).val, 0] := by decide +kernel
theorem win0_5_index : ∀ t : Fin grid0.N, win0_5.index t = ![(grid0.coords t 0).val, (grid0.coords t 1).val, 0] := by decide +kernel

theorem win2_0_index : ∀ t : Fin grid2.N, win2_0.index t = ![0, 0, 0] := by decide +kernel
theorem win2_1_index : ∀ t : Fin grid2.N, win2_1.index t = ![0, 0, 0] := by decide +kernel
theorem win2_2_index : ∀ t : Fin grid2.N, win2_2.index t = ![0, 0, 0] := by decide +kernel
theorem win2_3_index : ∀ t : Fin grid2.N, win2_3.index t = ![0] := by decide +kernel
theorem win2_4_index : ∀ t : Fin grid2.N, win2_4.index t = ![0] := by decide +kernel
theorem win3_0_index : ∀ t : Fin grid3.N, win3_0.index t = ![(grid3.coords t 0).val, (grid3.coords t 1).val, 0] := by decide +kernel
theorem win3_1_index : ∀ t : Fin grid3.N, win3_1.index t = ![(grid3.coords t 0).val, (grid3.coords t 1).val, 0] := by decide +kernel
theorem win3_2_index : ∀ t : Fin grid3.N, win3_2.index t = ![0] := by decide +kernel
theorem win3_3_index : ∀ t : Fin grid3.N, win3_3.index t = ![0] := by decide +kernel
theorem win3_4_index : ∀ t : Fin grid3.N, win3_4.index t = ![0] := by decide +kernel
theorem win3_5_index : ∀ t : Fin grid3.N, win3_5.index t = ![0] := by decide +kernel
theorem win3_6_index : ∀ t : Fin grid3.N, win3_6.index t = ![(grid3.coords t 0).val, (grid3.coords t 1).val, 0] := by decide +kernel

theorem split_block (y : S1x1024x256.Idx) : ∃ (r : Fin 1024) (o : Fin 256), y = ix3 0 r o :=
  ⟨y 1, y 2, (eq_ix3 y).trans (congrArg (fun a => ix3 (n0 := 1) a (y 1) (y 2)) (Subsingleton.elim (α := Fin 1) (y 0) 0))⟩

/-- Product of the points with weights, plus a bias. -/
def affArr (x : S2x4096x128.Idx → EReal) (w : S256x128.Idx → EReal) (b : S256.Idx → EReal) : S2x4096x256.Idx → EReal := fun j =>
  (∑ f, x (ix3 (j 0) (j 1) f) * w (ix2 (j 2) f)) + b (ix1 (j 2))

/-- Product of the points with weights. -/
def mulArr (x : S2x4096x128.Idx → EReal) (w : S256x128.Idx → EReal) : S2x4096x256.Idx → EReal := fun j =>
  ∑ f, x (ix3 (j 0) (j 1) f) * w (ix2 (j 2) f)

theorem iblk0_0_apply (c : Dev nD) (t : Fin grid0.N) (r : Fin 1024) (f : Fin 128) (n : Fin 4096)
    (hn : n.val = 1024 * (grid0.coords t 1).val + r.val) :
    (iblk0 V c 0 t : Vec Ideal S1x1024x128 .f32) (ix3 0 r f) = V c main_v1 (ix3 (grid0.coords t 0) n f) := by
  blk_simp [iblk0]
  congr 1
  blk_ext [win0_0_index]

theorem iblk0_1_apply (c : Dev nD) (t : Fin grid0.N) (o : Fin 256) (f : Fin 128) :
    (iblk0 V c 1 t : Vec Ideal S256x128 .f32) (ix2 o f) = V c main_v4 (ix2 o f) := by
  blk_simp [iblk0]
  congr 1
  blk_ext [win0_1_index]

theorem iblk0_2_apply (c : Dev nD) (t : Fin grid0.N) (o : Fin 256) (f : Fin 128) :
    (iblk0 V c 2 t : Vec Ideal S256x128 .f32) (ix2 o f) = V c main_v3 (ix2 o f) := by
  blk_simp [iblk0]
  congr 1
  blk_ext [win0_2_index]

theorem iblk0_3_apply (c : Dev nD) (t : Fin grid0.N) (o : Fin 256) :
    (iblk0 V c 3 t : Vec Ideal S256 .f32) (ix1 o) = V c main_arg2 (ix1 o) := by
  blk_simp [iblk0]
  congr 1
  blk_ext [win0_3_index]

/-- The first kernel's first output: the points times the difference of the weights' halves, plus the bias. -/
theorem y_array (c : Dev nD) : (dat0 V c).arrAt 4 cfg0.N = affArr (V c main_v1) (V c main_v4) (V c main_arg2) := by
  refine (dat0 V c).arrAt_eq_of_covers 4 _ (by decide +kernel) fun t hf y => ?_
  blk_simp
  rw [after0_4]
  frame_out
  obtain ⟨r, o, rfl⟩ := split_block y
  have hi : (grid0.coords t 1).val < 4 := (grid0.coords t 1).isLt
  obtain ⟨n, hn⟩ : ∃ n : Fin 4096, n.val = 1024 * (grid0.coords t 1).val + r.val := ⟨⟨_, by omega⟩, rfl⟩
  have he : (win0_4.blk t).view.emb (ix3 0 r o : S1x1024x256.Idx) = ix3 (grid0.coords t 0) n o := by
    blk_ext [win0_4_index]
  rw [he]
  pointwise [k0_pay2, k0_pay1]
  simp only [iblk0_0_apply V c t r _ n hn, iblk0_1_apply, iblk0_3_apply]
  rfl

/-- The first kernel's second output: the points times the second half of the weights. -/
theorem z_array (c : Dev nD) : (dat0 V c).arrAt 5 cfg0.N = mulArr (V c main_v1) (V c main_v3) := by
  refine (dat0 V c).arrAt_eq_of_covers 5 _ (by decide +kernel) fun t hf y => ?_
  blk_simp
  rw [after0_5]
  frame_out
  obtain ⟨r, o, rfl⟩ := split_block y
  have hi : (grid0.coords t 1).val < 4 := (grid0.coords t 1).isLt
  obtain ⟨n, hn⟩ : ∃ n : Fin 4096, n.val = 1024 * (grid0.coords t 1).val + r.val := ⟨⟨_, by omega⟩, rfl⟩
  have he : (win0_5.blk t).view.emb (ix3 0 r o : S1x1024x256.Idx) = ix3 (grid0.coords t 0) n o := by
    blk_ext [win0_5_index]
  rw [he]
  pointwise [k0_pay3, k0_pay1]
  simp only [iblk0_0_apply V c t r _ n hn, iblk0_2_apply]
  rfl

/-- A channel's mean over the batch, the points and the neighbours, from the first product and the neighbours' sums. -/
def meanArr (y s : S2x4096x256.Idx → EReal) : S256.Idx → EReal := fun j =>
  Ideal.div (Ideal.ofBits .f32 0x41A00000#32 * (∑ b : Fin 2, ∑ n : Fin 4096, y (ix3 b n (j 0)))
    + ∑ b : Fin 2, ∑ n : Fin 4096, s (ix3 b n (j 0))) (Ideal.ofBits .f32 0x48200000#32)

/-- A channel's inverse deviation, from the first product, the neighbours' sums and the neighbours' sums of squares. -/
def invArr (y s s2 : S2x4096x256.Idx → EReal) : S256.Idx → EReal := fun j =>
  Ideal.div 1 (Ideal.sqrt (Ideal.div
      (Ideal.ofBits .f32 0x41A00000#32 * (∑ b : Fin 2, ∑ n : Fin 4096, y (ix3 b n (j 0)) * y (ix3 b n (j 0)))
        + Ideal.ofBits .f32 0x40000000#32 * (∑ b : Fin 2, ∑ n : Fin 4096, y (ix3 b n (j 0)) * s (ix3 b n (j 0)))
        + ∑ b : Fin 2, ∑ n : Fin 4096, s2 (ix3 b n (j 0))) (Ideal.ofBits .f32 0x48200000#32)
    - meanArr y s j * meanArr y s j + Ideal.ofBits .f32 0x3727C5AC#32))

theorem iblk2_0_eq (c : Dev nD) (t : Fin cfg2.N) : (iblk2 V c 0 t : Vec Ideal S2x4096x256 .f32) = V c main_v5_0 := by
  funext y
  blk_simp [iblk2]
  congr 1
  blk_ext [win2_0_index]

theorem iblk2_1_eq (c : Dev nD) (t : Fin cfg2.N) : (iblk2 V c 1 t : Vec Ideal S2x4096x256 .f32) = V c main_v16 := by
  funext y
  blk_simp [iblk2]
  congr 1
  blk_ext [win2_1_index]

theorem iblk2_2_eq (c : Dev nD) (t : Fin cfg2.N) : (iblk2 V c 2 t : Vec Ideal S2x4096x256 .f32) = V c main_v18 := by
  funext y
  blk_simp [iblk2]
  congr 1
  blk_ext [win2_2_index]

/-- The statistics kernel's first output: the channels' means. -/
theorem mean_array (c : Dev nD) : (dat2 V c).arrAt 3 cfg2.N = meanArr (V c main_v5_0) (V c main_v16) := by
  refine (dat2 V c).arrAt_eq_of_covers 3 _ (by decide +kernel) fun t hf y => ?_
  blk_simp
  rw [after2_3]
  frame_out
  have he : ((View.whole main_v20_0).slice (win2_3.rect t)).emb y = (y : S256.Idx) := by
    blk_ext [win2_3_index]
  rw [he]
  pointwise [k2_pay3, k2_pay1, k2_pay2]
  rw [iblk2_0_eq, iblk2_1_eq, sum_axes01, sum_axes01]
  rfl

/-- The statistics kernel's second output: the channels' inverse deviations. -/
theorem inv_array (c : Dev nD) :
    (dat2 V c).arrAt 4 cfg2.N = invArr (V c main_v5_0) (V c main_v16) (V c main_v18) := by
  refine (dat2 V c).arrAt_eq_of_covers 4 _ (by decide +kernel) fun t hf y => ?_
  blk_simp
  rw [after2_4]
  frame_out
  have he : ((View.whole main_v20_1).slice (win2_4.rect t)).emb y = (y : S256.Idx) := by
    blk_ext [win2_4_index]
  rw [he]
  pointwise [k2_pay4, k2_pay3, k2_pay1, k2_pay2]
  simp only [iblk2_0_eq, iblk2_1_eq, iblk2_2_eq, sum_axes01]
  rfl

/-- The normalised, rectified sum of the first product and the neighbours' maximum. -/
def outArr (y zmax : S2x4096x256.Idx → EReal) (mean inv gamma beta : S256.Idx → EReal) : S2x4096x256.Idx → EReal := fun j =>
  max ((y j + zmax j - mean (ix1 (j 2))) * inv (ix1 (j 2)) * gamma (ix1 (j 2)) + beta (ix1 (j 2))) 0

theorem iblk3_0_apply (c : Dev nD) (t : Fin grid3.N) (r : Fin 1024) (o : Fin 256) (n : Fin 4096)
    (hn : n.val = 1024 * (grid3.coords t 1).val + r.val) :
    (iblk3 V c 0 t : Vec Ideal S1x1024x256 .f32) (ix3 0 r o) = V c main_v5_0 (ix3 (grid3.coords t 0) n o) := by
  blk_simp [iblk3]
  congr 1
  blk_ext [win3_0_index]

theorem iblk3_1_apply (c : Dev nD) (t : Fin grid3.N) (r : Fin 1024) (o : Fin 256) (n : Fin 4096)
    (hn : n.val = 1024 * (grid3.coords t 1).val + r.val) :
    (iblk3 V c 1 t : Vec Ideal S1x1024x256 .f32) (ix3 0 r o) = V c main_v19 (ix3 (grid3.coords t 0) n o) := by
  blk_simp [iblk3]
  congr 1
  blk_ext [win3_1_index]

theorem iblk3_2_apply (c : Dev nD) (t : Fin grid3.N) (o : Fin 256) :
    (iblk3 V c 2 t : Vec Ideal S256 .f32) (ix1 o) = V c main_v20_0 (ix1 o) := by
  blk_simp [iblk3]
  congr 1
  blk_ext [win3_2_index]

theorem iblk3_3_apply (c : Dev nD) (t : Fin grid3.N) (o : Fin 256) :
    (iblk3 V c 3 t : Vec Ideal S256 .f32) (ix1 o) = V c main_v20_1 (ix1 o) := by
  blk_simp [iblk3]
  congr 1
  blk_ext [win3_3_index]

theorem iblk3_4_apply (c : Dev nD) (t : Fin grid3.N) (o : Fin 256) :
    (iblk3 V c 4 t : Vec Ideal S256 .f32) (ix1 o) = V c main_arg3 (ix1 o) := by
  blk_simp [iblk3]
  congr 1
  blk_ext [win3_4_index]

theorem iblk3_5_apply (c : Dev nD) (t : Fin grid3.N) (o : Fin 256) :
    (iblk3 V c 5 t : Vec Ideal S256 .f32) (ix1 o) = V c main_arg4 (ix1 o) := by
  blk_simp [iblk3]
  congr 1
  blk_ext [win3_5_index]

/-- The last kernel's output. -/
theorem out_array (c : Dev nD) : (dat3 V c).arrAt 6 cfg3.N
    = outArr (V c main_v5_0) (V c main_v19) (V c main_v20_0) (V c main_v20_1) (V c main_arg3) (V c main_arg4) := by
  refine (dat3 V c).arrAt_eq_of_covers 6 _ (by decide +kernel) fun t hf y => ?_
  blk_simp
  rw [after3_6]
  frame_out
  obtain ⟨r, o, rfl⟩ := split_block y
  have hi : (grid3.coords t 1).val < 4 := (grid3.coords t 1).isLt
  obtain ⟨n, hn⟩ : ∃ n : Fin 4096, n.val = 1024 * (grid3.coords t 1).val + r.val := ⟨⟨_, by omega⟩, rfl⟩
  have he : (win3_6.blk t).view.emb (ix3 0 r o : S1x1024x256.Idx) = ix3 (grid3.coords t 0) n o := by
    blk_ext [win3_6_index]
  rw [he]
  pointwise [k3_pay1]
  simp only [iblk3_0_apply V c t r _ n hn, iblk3_1_apply V c t r _ n hn, iblk3_2_apply, iblk3_3_apply, iblk3_4_apply, iblk3_5_apply]
  rfl

end Cert.Arrays

end
-- ==== Proof.KernelValue.lean ====
/- The kernel's result: what the host operations and the four kernels leave, followed from the arguments to the result
   array. -/
module

public import proofs.«01_k».proof.Proof.KernelHost
public import proofs.«01_k».proof.Proof.Arrays

@[expose] public section

set_option maxRecDepth 16384

noncomputable section

namespace Cert.KernelValue

open Idealize.ShloMosaic Cert.KernelIdeal Cert.KernelIdeal.Gen Cert.KernelHost Cert.Arrays Cert.K2 Cert.Rounds
open Idealize.ShloMosaic.TcCoe

variable (m : (ℓ : Loc nD τ sig) → Buf (Elt Ideal) ℓ) (ρ : Dev nD → PrngReg)

/-- The arguments as plain arrays. -/
abbrev argX (c : Dev nD) : S2x128x4096x1.Idx → EReal := m ((c : Thread nD τ).loc main_arg0)
abbrev argW (c : Dev nD) : S256x256.Idx → EReal := m ((c : Thread nD τ).loc main_arg1)
abbrev argB (c : Dev nD) : S256.Idx → EReal := m ((c : Thread nD τ).loc main_arg2)
abbrev argG (c : Dev nD) : S256.Idx → EReal := m ((c : Thread nD τ).loc main_arg3)
abbrev argT (c : Dev nD) : S256.Idx → EReal := m ((c : Thread nD τ).loc main_arg4)

/-- The first product, with the bias. -/
def yArr (x : S2x128x4096x1.Idx → EReal) (w : S256x256.Idx → EReal) (b : S256.Idx → EReal) : S2x4096x256.Idx → EReal :=
  affArr (pts x) (wDiff w) b

/-- The second product. -/
def zArr (x : S2x128x4096x1.Idx → EReal) (w : S256x256.Idx → EReal) : S2x4096x256.Idx → EReal := mulArr (pts x) (wRight w)

/-- The kernel's result before its last change of layout, as a function of the arguments. -/
def kOut (x : S2x128x4096x1.Idx → EReal) (w : S256x256.Idx → EReal) (b g t : S256.Idx → EReal) : S2x4096x256.Idx → EReal :=
  outArr (yArr x w b) (maxArr (zArr x w) (near (pts x)))
    (meanArr (yArr x w b) (sumArr (zArr x w) (near (pts x))))
    (invArr (yArr x w b) (sumArr (zArr x w) (near (pts x))) (sqArr (zArr x w) (near (pts x)))) g t

variable (c : Dev nD)

theorem w1_v1 : (W1 m ρ c (Proc.devRef .tc main_v1) : S2x4096x128.Idx → EReal) = pts (argX m c) := v1_read (W0 m ρ c)

theorem w1_v3 : (W1 m ρ c (Proc.devRef .tc main_v3) : S256x128.Idx → EReal) = wRight (argW m c) := v3_read (W0 m ρ c)

theorem w1_v4 : (W1 m ρ c (Proc.devRef .tc main_v4) : S256x128.Idx → EReal) = wDiff (argW m c) := v4_read (W0 m ρ c)

theorem w2_y : (W2 m ρ c (Proc.devRef .tc main_v5_0) : S2x4096x256.Idx → EReal) = yArr (argX m c) (argW m c) (argB m c) := by
  refine (W2_arr m ρ c 4).trans ((y_array (V1 m ρ) c).trans ?_)
  unfold yArr
  exact congr (congrArg₂ affArr (w1_v1 m ρ c) (w1_v4 m ρ c)) (W1_args m ρ c main_arg2 (by decide))

theorem w2_z : (W2 m ρ c (Proc.devRef .tc main_v5_1) : S2x4096x256.Idx → EReal) = zArr (argX m c) (argW m c) := by
  refine (W2_arr m ρ c 5).trans ((z_array (V1 m ρ) c).trans ?_)
  exact congrArg₂ mulArr (w1_v1 m ρ c) (w1_v3 m ρ c)

theorem w2_v1 : (W2 m ρ c (Proc.devRef .tc main_v1) : S2x4096x128.Idx → EReal) = pts (argX m c) :=
  (W2_of m ρ c main_v1 (by decide)).trans (w1_v1 m ρ c)

section
variable (hd : ∀ b n p, distX (pts (argX m c)) b n p < ⊤)
include hd

theorem w3_v6 : (W3 m ρ c (Proc.devRef .tc main_v6) : S2x32x20x128.Idx → BitVec 32) = nearArr (pts (argX m c)) := by
  refine (W3_arr m ρ c 2).trans ?_
  have e : (V2 m ρ c main_v1 : S2x4096x128.Idx → EReal) = pts (argX m c) := w2_v1 m ρ c
  rw [near_array (V2 m ρ) c (by rw [e]; exact hd)]
  exact congrArg nearArr e

theorem w3_y : (W3 m ρ c (Proc.devRef .tc main_v5_0) : S2x4096x256.Idx → EReal) = yArr (argX m c) (argW m c) (argB m c) :=
  (W3_of m ρ c main_v5_0 (by decide)).trans (w2_y m ρ c)

theorem w3_z : (W3 m ρ c (Proc.devRef .tc main_v5_1) : S2x4096x256.Idx → EReal) = zArr (argX m c) (argW m c) :=
  (W3_of m ρ c main_v5_1 (by decide)).trans (w2_z m ρ c)

theorem w4_v14 (b : Fin 2) (n : Fin 4096) (t : Fin 20) :
    (W4 m ρ c (Proc.devRef .tc main_v14) : S2x4096x20x1.Idx → BitVec 32) (ix4 b n t 0) = word (near (pts (argX m c)) b n t) := by
  refine v14_read (W3 m ρ c) b n t _ ?_
  rw [w3_v6 m ρ c hd]
  unfold nearArr
  refine congrArg word (congrArg (fun k => near (pts (argX m c)) b k t) (Fin.ext ?_))
  show 128 * (n.val / 128) + n.val % 128 = n.val
  omega

theorem w4_y : (W4 m ρ c (Proc.devRef .tc main_v5_0) : S2x4096x256.Idx → EReal) = yArr (argX m c) (argW m c) (argB m c) :=
  (W4_of m ρ c main_v5_0 (by decide)).trans (w3_y m ρ c hd)

theorem w4_sum : (W4 m ρ c (Proc.devRef .tc main_v16) : S2x4096x256.Idx → EReal) = sumArr (zArr (argX m c) (argW m c)) (near (pts (argX m c))) :=
  v16_read (W3 m ρ c) _ _ (w3_z m ρ c hd) (w4_v14 m ρ c hd)

theorem w4_sq : (W4 m ρ c (Proc.devRef .tc main_v18) : S2x4096x256.Idx → EReal) = sqArr (zArr (argX m c) (argW m c)) (near (pts (argX m c))) :=
  v18_read (W3 m ρ c) _ _ (w3_z m ρ c hd) (w4_v14 m ρ c hd)

theorem w4_max : (W4 m ρ c (Proc.devRef .tc main_v19) : S2x4096x256.Idx → EReal) = maxArr (zArr (argX m c) (argW m c)) (near (pts (argX m c))) :=
  v19_read (W3 m ρ c) _ _ (w3_z m ρ c hd) (w4_v14 m ρ c hd)

/-- The array the last kernel leaves. -/
theorem w6_out : (W6 m ρ c (Proc.devRef .tc main_v21) : S2x4096x256.Idx → EReal)
    = kOut (argX m c) (argW m c) (argB m c) (argG m c) (argT m c) := by
  refine (W6_arr m ρ c 6).trans ((out_array (V5 m ρ) c).trans ?_)
  have e1 : (V5 m ρ c main_v5_0 : S2x4096x256.Idx → EReal) = _ := (W5_of m ρ c main_v5_0 (by decide)).trans (w4_y m ρ c hd)
  have e2 : (V5 m ρ c main_v19 : S2x4096x256.Idx → EReal) = _ := (W5_of m ρ c main_v19 (by decide)).trans (w4_max m ρ c hd)
  have e3 : (V5 m ρ c main_v20_0 : S256.Idx → EReal) = _ := (W5_arr m ρ c 3).trans ((mean_array (V4 m ρ) c).trans
    (congrArg₂ meanArr (w4_y m ρ c hd) (w4_sum m ρ c hd)))
  have e4 : (V5 m ρ c main_v20_1 : S256.Idx → EReal) = _ := (W5_arr m ρ c 4).trans ((inv_array (V4 m ρ) c).trans
    (congr (congrArg₂ invArr (w4_y m ρ c hd) (w4_sum m ρ c hd)) (w4_sq m ρ c hd)))
  have e5 : (V5 m ρ c main_arg3 : S256.Idx → EReal) = argG m c := W5_args m ρ c main_arg3 (by decide)
  have e6 : (V5 m ρ c main_arg4 : S256.Idx → EReal) = argT m c := W5_args m ρ c main_arg4 (by decide)
  rw [e1, e2, e3, e4, e5, e6]
  rfl

/-- The result array at an index. -/
theorem w7_out (b : Fin 2) (o : Fin 256) (n : Fin 4096) : (W7 m ρ c (Proc.devRef .tc main_v23) : S2x256x4096x1.Idx → EReal) (ix4 b o n 0)
    = kOut (argX m c) (argW m c) (argB m c) (argG m c) (argT m c) (ix3 b n o) :=
  (v23_read (W6 m ρ c) b o n).trans (congrFun (w6_out m ρ c hd) _)

end

end Cert.KernelValue
-- ==== Proof.TopK.lean ====
/- The indices of the greatest entries along the last of three axes, at an index. -/
module

public import Idealize.ShloMosaic.Lib.Pointwise

@[expose] public section

namespace Cert.TopK

open Idealize.ShloMosaic

/-- Moving an index along its last axis. -/
theorem along_last {a b m : ℕ} (i : Fin a) (n : Fin b) (p q : Fin m) (h : 2 < 3) :
    Shape.Idx.along (s := ⟨3, ![a, b, m]⟩) (ix3 i n p) (⟨2, h⟩ : Fin 3) (q : Fin m) = ix3 i n q := by
  funext c; fin_cases c <;> rfl

/-- A stable sort of pairs along the last axis, its second components. -/
theorem sort2_apply {α β : Type} {a b m : ℕ} (cmp : α × β → α × β → BitVec 1) (x : (⟨3, ![a, b, m]⟩ : Shape).Idx → α)
    (y : (⟨3, ![a, b, m]⟩ : Shape).Idx → β) (i : Fin a) (n : Fin b) (p : Fin m) :
    (Host.sort2 ⟨3, ![a, b, m]⟩ 2 cmp x y).2 (ix3 i n p)
      = y (ix3 i n (sortedFrom (fun q q' : Fin m => cmp (x (ix3 i n q), y (ix3 i n q)) (x (ix3 i n q'), y (ix3 i n q')) == 1#1) p)) := by
  unfold Host.sort2
  have h2 : 2 < (⟨3, ![a, b, m]⟩ : Shape).rank := Nat.lt_succ_self 2
  rw [dif_pos h2]
  have e := fun q : Fin m => along_last i n p q h2
  refine congrArg y ((e _).trans (congrArg (ix3 i n) ?_))
  refine congrArg (fun R : Fin m → Fin m → Bool => sortedFrom R p) (funext fun q => funext fun q' => ?_)
  exact congrArg₂ (fun u v => cmp (x u, y u) (x v, y v) == 1#1) (e q) (e q')

/-- The place-`k` index is the position that the stable sort of the row puts at `k`. -/
theorem topK_apply {α : Type} {a b m l : ℕ} (gt : α → α → BitVec 1) (x : (⟨3, ![a, b, m]⟩ : Shape).Idx → α)
    (h : (⟨3, ![a, b, m]⟩ : Shape).Slices (fun _ => 0) ⟨3, ![a, b, l]⟩) (i : Fin a) (n : Fin b) (k : Fin l) (hk : k.val < m) :
    (Host.topK ⟨3, ![a, b, l]⟩ 2 gt x h).2 (ix3 i n k)
      = BitVec.ofNat 32 (sortedFrom (fun p p' : Fin m => gt (x (ix3 i n p)) (x (ix3 i n p')) == 1#1) ⟨k.val, hk⟩).val := by
  have e : (fun c : Fin 3 => (⟨0 + (ix3 i n k (c.cast h.1.symm)).val, Nat.lt_of_lt_of_le (Nat.add_lt_add_left (ix3 i n k _).isLt _) (h.2 c)⟩
      : Fin ((⟨3, ![a, b, m]⟩ : Shape).size c))) = ix3 i n ⟨k.val, hk⟩ := by
    funext c
    apply Fin.ext
    match c with
    | ⟨0, _⟩ => exact Nat.zero_add _
    | ⟨1, _⟩ => exact Nat.zero_add _
    | ⟨2, _⟩ => exact Nat.zero_add _
  unfold Host.topK
  refine (congrArg (Host.sort2 ⟨3, ![a, b, m]⟩ 2 (fun u v : α × BitVec 32 => gt u.1 v.1) x
    (fun j => if hd : 2 < 3 then iotaInDim ⟨3, ![a, b, m]⟩ 32 ⟨2, hd⟩ j else 0#32)).2 e).trans ?_
  rw [sort2_apply]
  rw [dif_pos (Nat.lt_succ_self 2)]
  rfl

end Cert.TopK
-- ==== Proof.RefValue.lean ====
/- The reference's result, stage by stage: the distances, the neighbours' indices, the edge features, the layer before
   normalisation, its mean and variance per channel, and the normalised, rectified maximum over the neighbours. -/
module

public import proofs.«01_k».proof.Proof.Gen.ReferenceIdeal.Run
public import proofs.«01_k».proof.Proof.Sums
public import proofs.«01_k».proof.Proof.Rounds
public import proofs.«01_k».proof.Proof.TopK
public import Idealize.ShloMosaic.Lib.Pointwise
public import Idealize.ShloMosaic.Lib.Tactic.WordOmega

@[expose] public section

set_option maxRecDepth 16384

noncomputable section

namespace Cert.RefValue

open Idealize.ShloMosaic Cert.ReferenceIdeal Cert.ReferenceIdeal.Gen Cert.Rounds Cert.Rank Cert.Sums Cert.TopK
open Idealize.ShloMosaic.TcCoe

/-! ## The stages -/

/-- The points, features first. -/
def feat (x : FVec Ideal S2x128x4096x1 .f32) : FVec Ideal S2x128x4096 .f32 := shapeCast _ x shapeCasts_S2x128x4096x1_S2x128x4096

/-- The points, features last. -/
def feat' (x : FVec Ideal S2x128x4096x1 .f32) : FVec Ideal S2x4096x128 .f32 :=
  transpose S2x4096x128 [0, 2, 1] (feat x) transposes_S2x128x4096_S2x4096x128_0_2_1

/-- The squared norms, as a column. -/
def norms (x : FVec Ideal S2x128x4096x1 .f32) : FVec Ideal S2x4096x1 .f32 :=
  broadcastInDim S2x4096x1 ![0, 1] bcast_S2x4096_S2x4096x1_0_1
    (Host.reduceAdd (mulf (feat' x) (feat' x)) (constant (F := Ideal) S_ .f32 0x00000000#32) reducesTo_S2x4096x128_S2x4096_d2 h_S_)

/-- The squared distances negated. -/
def negDist (x : FVec Ideal S2x128x4096x1 .f32) : FVec Ideal S2x4096x4096 .f32 :=
  Host.negf (addf (subf (broadcastInDim S2x4096x4096 ![0, 1, 2] bcast_S2x4096x1_S2x4096x4096_0_1_2 (norms x))
      (mulf (broadcastInDim S2x4096x4096 ![] bcast_S_S2x4096x4096 (constant (F := Ideal) S_ .f32 0x40000000#32))
        (Host.dotGeneral dot_S2x4096x128_S2x128x4096_S2x4096x4096_2_1_1_2_0_0 none (feat' x)
          (transpose S2x128x4096 [0, 2, 1] (feat' x) transposes_S2x4096x128_S2x128x4096_0_2_1))))
    (broadcastInDim S2x4096x4096 ![0, 1, 2] bcast_S2x1x4096_S2x4096x4096_0_1_2
      (transpose S2x1x4096 [0, 2, 1] (norms x) transposes_S2x4096x1_S2x1x4096_0_2_1)))

/-- The neighbours' indices as selected. -/
def picks (x : FVec Ideal S2x128x4096x1 .f32) : IVec S2x4096x20 32 :=
  (Host.topK S2x4096x20 2 (FloatOps.cmpfTotal (F := Ideal) (φ := .f32) .gt) (negDist x) sliceFits_S2x4096x4096_S2x4096x20).2

/-- The neighbours' indices as the gather reads them. -/
def starts (p : IVec S2x4096x20 32) : IVec S2x4096x20x1 32 :=
  broadcastInDim S2x4096x20x1 ![0, 1, 2] bcast_S2x4096x20_S2x4096x20x1_0_1_2
    (select (cmpi .slt p (broadcastInDim S2x4096x20 ![] bcast_S_S2x4096x20 (constantI S_ 32 0#32)))
      (addi p (broadcastInDim S2x4096x20 ![] bcast_S_S2x4096x20 (constantI S_ 32 4096#32))) p)

/-- The point's features, repeated for each neighbour. -/
def centre (x : FVec Ideal S2x128x4096x1 .f32) : FVec Ideal S2x128x4096x20 .f32 :=
  broadcastInDim S2x128x4096x20 ![0, 1, 2, 3] bcast_S2x128x4096x1_S2x128x4096x20_0_1_2_3
    (broadcastInDim S2x128x4096x1 ![0, 1, 2] bcast_S2x128x4096_S2x128x4096x1_0_1_2 (feat x))

/-- The neighbours' features. -/
def nbr (x : FVec Ideal S2x128x4096x1 .f32) : FVec Ideal S2x128x4096x20 .f32 :=
  Host.gather gather_S2x128x4096_S2x4096x20x1_S2x128x4096x20_1_2_0_0_2_3_11281 (feat x) (starts (picks x))

/-- The layer before normalisation. -/
def layer (x : FVec Ideal S2x128x4096x1 .f32) (w : FVec Ideal S256x256 .f32) (b : FVec Ideal S256 .f32) : FVec Ideal S2x256x4096x20 .f32 :=
  addf (transpose S2x256x4096x20 [0, 3, 1, 2]
      (Host.dotGeneral dot_S2x256x4096x20_S256x256_S2x4096x20x256_1_1_023_0_n_n none
        (concatenate S2x256x4096x20 1 [⟨S2x128x4096x20, centre x⟩, ⟨S2x128x4096x20, subf (nbr x) (centre x)⟩]
          concatenates_S2x128x4096x20_S2x128x4096x20_S2x256x4096x20_d1) w)
      transposes_S2x4096x20x256_S2x256x4096x20_0_3_1_2)
    (broadcastInDim S2x256x4096x20 ![0, 1, 2, 3] bcast_S1x256x1x1_S2x256x4096x20_0_1_2_3
      (broadcastInDim S1x256x1x1 ![1] bcast_S256_S1x256x1x1_1 b))

/-- A channel's mean. -/
def avg (h : FVec Ideal S2x256x4096x20 .f32) : FVec Ideal S1x256x1x1 .f32 :=
  Host.divf (broadcastInDim S1x256x1x1 ![1] bcast_S256_S1x256x1x1_1
      (Host.reduceAdd h (constant (F := Ideal) S_ .f32 0x00000000#32) reducesTo_S2x256x4096x20_S256_d0_2_3 h_S_))
    (broadcastInDim S1x256x1x1 ![] bcast_S_S1x256x1x1 (constant (F := Ideal) S_ .f32 0x48200000#32))

/-- The layer less its mean. -/
def dev (h : FVec Ideal S2x256x4096x20 .f32) : FVec Ideal S2x256x4096x20 .f32 :=
  subf h (broadcastInDim S2x256x4096x20 ![0, 1, 2, 3] bcast_S1x256x1x1_S2x256x4096x20_0_1_2_3 (avg h))

/-- The layer normalised, scaled and shifted. -/
def norm (h : FVec Ideal S2x256x4096x20 .f32) (g t : FVec Ideal S256 .f32) : FVec Ideal S2x256x4096x20 .f32 :=
  addf (mulf (Host.divf (dev h) (broadcastInDim S2x256x4096x20 ![0, 1, 2, 3] bcast_S1x256x1x1_S2x256x4096x20_0_1_2_3
        (Host.sqrt (addf (avg (mulf (dev h) (dev h)))
          (broadcastInDim S1x256x1x1 ![] bcast_S_S1x256x1x1 (constant (F := Ideal) S_ .f32 0x3727C5AC#32))))))
      (broadcastInDim S2x256x4096x20 ![0, 1, 2, 3] bcast_S1x256x1x1_S2x256x4096x20_0_1_2_3
        (broadcastInDim S1x256x1x1 ![1] bcast_S256_S1x256x1x1_1 g)))
    (broadcastInDim S2x256x4096x20 ![0, 1, 2, 3] bcast_S1x256x1x1_S2x256x4096x20_0_1_2_3
      (broadcastInDim S1x256x1x1 ![1] bcast_S256_S1x256x1x1_1 t))

/-- The rectified maximum over the neighbours. -/
def top (v : FVec Ideal S2x256x4096x20 .f32) : FVec Ideal S2x256x4096x1 .f32 :=
  broadcastInDim S2x256x4096x1 ![0, 1, 2] bcast_S2x256x4096_S2x256x4096x1_0_1_2
    (Host.reduce (FloatOps.maximumf (F := Ideal) (φ := .f32)) (maximumf v (broadcastInDim S2x256x4096x20 ![] bcast_S_S2x256x4096x20 (constant (F := Ideal) S_ .f32 0x00000000#32)))
      (constant (F := Ideal) S_ .f32 0xFF800000#32) reducesTo_S2x256x4096x20_S2x256x4096_d3 h_S_)

/-- The reference's composed result is the stages' composition. -/
theorem res_eq (m : (ℓ : Loc nD τ sig) → Buf (Elt Ideal) ℓ) (c : Dev nD) :
    Value.res_main_v57 m c = top (norm (layer (m ((c.tc : Thread nD τ).loc main_arg0)) (m ((c.tc : Thread nD τ).loc main_arg1))
      (m ((c.tc : Thread nD τ).loc main_arg2))) (m ((c.tc : Thread nD τ).loc main_arg3)) (m ((c.tc : Thread nD τ).loc main_arg4))) := by
  unfold Value.res_main_v57
  rfl

/-! ## The stages at an index -/

variable (x : FVec Ideal S2x128x4096x1 .f32) (w : FVec Ideal S256x256 .f32) (b g t : FVec Ideal S256 .f32)

theorem feat_apply (i : Fin 2) (f : Fin 128) (n : Fin 4096) : feat x (ix3 i f n) = x (ix4 i f n 0) := by
  unfold feat; pointwise

/-- The squared distance of two points. -/
def dist (i : Fin 2) (n p : Fin 4096) : EReal :=
  (∑ f, x (ix4 i f n 0) * x (ix4 i f n 0)) - Ideal.ofBits .f32 0x40000000#32 * (∑ f, x (ix4 i f n 0) * x (ix4 i f p 0))
    + ∑ f, x (ix4 i f p 0) * x (ix4 i f p 0)

theorem negDist_apply (i : Fin 2) (n p : Fin 4096) : negDist x (ix3 i n p) = -dist x i n p := by
  unfold negDist norms feat' dist
  pointwise [feat_apply]

/-- The neighbours of a point: the first twenty in the order of distance, then of index. -/
def near (i : Fin 2) (n : Fin 4096) (k : Fin 20) : Fin 4096 := place (dist x i n) ⟨k.val, by omega⟩

theorem before_iff (u v : EReal) : (FloatOps.cmpfTotal (F := Ideal) (φ := .f32) .gt (-u) (-v) == 1#1) = true ↔ u < v := by
  show (Ideal.cmpTotal .gt (-u) (-v) == 1#1) = true ↔ u < v
  unfold Ideal.cmpTotal
  by_cases h : u < v <;> simp [Ideal.cmp, CmpDirection.ordered, h]

theorem picks_apply (i : Fin 2) (n : Fin 4096) (k : Fin 20) : picks x (ix3 i n k) = word (near x i n k) := by
  unfold picks near
  have hk : k.val < 4096 := by omega
  rw [topK_apply _ _ _ i n k hk]
  simp only [negDist_apply]
  rw [sortedFrom_eq_place (dist x i n) _ (fun p q => before_iff _ _)]
  rfl

/-- A word below 4096 is not negative, so the wrap of negative indices keeps it. -/
theorem wrap_word (p : Fin 4096) : Scalar.select (IntOp.cmpi .slt (word p) 0#32) (IntOp.addi (word p) 4096#32) (word p) = word p := by
  have h : (word p).toInt = p.val := toInt_word p
  have : ¬ (word p).toInt < (0#32 : BitVec 32).toInt := by rw [h]; simp
  generalize word p = v at *
  word_omega

theorem starts_apply (i : Fin 2) (n : Fin 4096) (k : Fin 20) : starts (picks x) (ix4 i n k 0) = word (near x i n k) := by
  unfold starts
  pointwise
  rw [picks_apply]
  exact wrap_word _

/-- The gather reads the point that the index word names. -/
theorem gather_read (z : FVec Ideal S2x128x4096 .f32) (s : IVec S2x4096x20x1 32) (i : Fin 2) (f : Fin 128) (n : Fin 4096) (k : Fin 20)
    (p : Fin 4096) (h : s (ix4 i n k 0) = word p) :
    Host.gather gather_S2x128x4096_S2x4096x20x1_S2x128x4096x20_1_2_0_0_2_3_11281 z s (ix4 i f n k) = z (ix3 i f p) := by
  unfold Host.gather
  refine congrArg z (funext fun a => Fin.ext ?_)
  match a with
  | ⟨0, _⟩ => show 0 + i.val + 0 = i.val; omega
  | ⟨1, _⟩ => show 0 + 0 + f.val = f.val; omega
  | ⟨2, _⟩ =>
    have hs : gather_S2x128x4096_S2x4096x20x1_S2x128x4096x20_1_2_0_0_2_3_11281.siIdx (ix4 i f n k) ⟨0, by decide⟩ = ix4 i n k 0 := by
      funext a; apply Fin.ext
      match a with
      | ⟨0, _⟩ => rfl
      | ⟨1, _⟩ => rfl
      | ⟨2, _⟩ => rfl
      | ⟨3, _⟩ => rfl
    show min (s (gather_S2x128x4096_S2x4096x20x1_S2x128x4096x20_1_2_0_0_2_3_11281.siIdx (ix4 i f n k) ⟨0, by decide⟩)).toInt.toNat (4096 - 1) + 0 + 0 = p.val
    rw [hs, h, toInt_word]
    omega

theorem nbr_apply (i : Fin 2) (f : Fin 128) (n : Fin 4096) (k : Fin 20) : nbr x (ix4 i f n k) = x (ix4 i f (near x i n k) 0) :=
  (gather_read _ _ i f n k _ (starts_apply x i n k)).trans (feat_apply x i f _)

theorem centre_apply (i : Fin 2) (f : Fin 128) (n : Fin 4096) (k : Fin 20) : centre x (ix4 i f n k) = x (ix4 i f n 0) := by
  unfold centre
  pointwise [feat_apply]

theorem layer_apply (i : Fin 2) (o : Fin 256) (n : Fin 4096) (k : Fin 20) : layer x w b (ix4 i o n k)
    = (∑ f : Fin 128, x (ix4 i f n 0) * w (ix2 o ⟨f.val, by omega⟩))
      + (∑ f : Fin 128, (x (ix4 i f (near x i n k) 0) - x (ix4 i f n 0)) * w (ix2 o ⟨128 + f.val, by omega⟩)) + b (ix1 o) := by
  unfold layer
  pointwise [centre_apply, nbr_apply]

theorem avg_apply (h : FVec Ideal S2x256x4096x20 .f32) (o : Fin 256) : avg h (ix4 0 o 0 0)
    = Ideal.div (∑ i : Fin 2, ∑ n : Fin 4096, ∑ k : Fin 20, h (ix4 i o n k)) (Ideal.ofBits .f32 0x48200000#32) := by
  unfold avg
  pointwise
  rw [sum_axes023, zero_add]
  rfl

theorem dev_apply (h : FVec Ideal S2x256x4096x20 .f32) (i : Fin 2) (o : Fin 256) (n : Fin 4096) (k : Fin 20) :
    dev h (ix4 i o n k) = h (ix4 i o n k) - avg h (ix4 0 o 0 0) := by
  unfold dev
  pointwise

theorem norm_apply (h : FVec Ideal S2x256x4096x20 .f32) (i : Fin 2) (o : Fin 256) (n : Fin 4096) (k : Fin 20) : norm h g t (ix4 i o n k)
    = Ideal.div (dev h (ix4 i o n k)) (Ideal.sqrt (avg (mulf (dev h) (dev h)) (ix4 0 o 0 0) + Ideal.ofBits .f32 0x3727C5AC#32))
      * g (ix1 o) + t (ix1 o) := by
  unfold norm
  pointwise

theorem top_apply (v : FVec Ideal S2x256x4096x20 .f32) (i : Fin 2) (o : Fin 256) (n : Fin 4096) : top v (ix4 i o n 0)
    = Finset.univ.fold max ⊥ fun k => max (v (ix4 i o n k)) 0 := by
  unfold top
  pointwise
  rw [show Ideal.ofBits .f32 0xFF800000#32 = ⊥ by simp [Ideal.ofBits, Ideal.ieee]]

end Cert.RefValue
-- ==== Proof.Stats.lean ====
/- The mean and the variance of the layer, over the reals: from the layer itself and from sums that never form it. -/
module

public import Idealize.ShloMosaic.Lib.Pointwise

@[expose] public section

noncomputable section

namespace Cert.Stats

variable (Y : Fin 2 → Fin 4096 → ℝ) (Z : Fin 2 → Fin 4096 → Fin 20 → ℝ)

/-- The sum of the layer over the points and their neighbours. -/
def total : ℝ := ∑ i, ∑ n, ∑ k, (Y i n + Z i n k)

/-- The mean of the layer. -/
def mean : ℝ := total Y Z / 163840

/-- The variance of the layer. -/
def var : ℝ := (∑ i, ∑ n, ∑ k, (Y i n + Z i n k - mean Y Z) * (Y i n + Z i n k - mean Y Z)) / 163840

theorem total_eq : total Y Z = 20 * (∑ i, ∑ n, Y i n) + ∑ i, ∑ n, ∑ k, Z i n k := by
  unfold total
  simp only [Finset.sum_add_distrib, Finset.sum_const, Finset.card_univ, Fintype.card_fin, nsmul_eq_mul, ← Finset.mul_sum]
  norm_num

theorem squares_eq : ∑ i, ∑ n, ∑ k, (Y i n + Z i n k) * (Y i n + Z i n k)
    = 20 * (∑ i, ∑ n, Y i n * Y i n) + 2 * (∑ i, ∑ n, Y i n * ∑ k, Z i n k) + ∑ i, ∑ n, ∑ k, Z i n k * Z i n k := by
  have e : ∀ i n, ∑ k, (Y i n + Z i n k) * (Y i n + Z i n k) = 20 * (Y i n * Y i n) + 2 * (Y i n * ∑ k, Z i n k) + ∑ k, Z i n k * Z i n k :=
    fun i n => by
      have : ∀ k, (Y i n + Z i n k) * (Y i n + Z i n k) = Y i n * Y i n + 2 * (Y i n * Z i n k) + Z i n k * Z i n k := fun k => by ring
      simp only [this, Finset.sum_add_distrib, Finset.sum_const, Finset.card_univ, Fintype.card_fin, nsmul_eq_mul, ← Finset.mul_sum]
      norm_num
  simp only [e, Finset.sum_add_distrib, ← Finset.mul_sum]

theorem expand (A B : Fin 2 → Fin 4096 → Fin 20 → ℝ) (M : ℝ) : ∑ i, ∑ n, ∑ k, (A i n k - 2 * M * B i n k + M * M)
    = (∑ i, ∑ n, ∑ k, A i n k) - 2 * M * (∑ i, ∑ n, ∑ k, B i n k) + 163840 * (M * M) := by
  simp only [Finset.sum_add_distrib, Finset.sum_sub_distrib, Finset.sum_const, Finset.card_univ, Fintype.card_fin, nsmul_eq_mul, ← Finset.mul_sum]
  norm_num
  ring

/-- The variance is the mean of the squares less the square of the mean. -/
theorem var_eq : var Y Z = (∑ i, ∑ n, ∑ k, (Y i n + Z i n k) * (Y i n + Z i n k)) / 163840 - mean Y Z * mean Y Z := by
  have hm : total Y Z = 163840 * mean Y Z := by unfold mean; ring
  have e : ∑ i, ∑ n, ∑ k, (Y i n + Z i n k - mean Y Z) * (Y i n + Z i n k - mean Y Z)
      = (∑ i, ∑ n, ∑ k, (Y i n + Z i n k) * (Y i n + Z i n k)) - 2 * mean Y Z * total Y Z + 163840 * (mean Y Z * mean Y Z) := by
    have := expand (fun i n k => (Y i n + Z i n k) * (Y i n + Z i n k)) (fun i n k => Y i n + Z i n k) (mean Y Z)
    rw [← show total Y Z = ∑ i, ∑ n, ∑ k, (Y i n + Z i n k) from rfl] at this
    rw [← this]
    exact Finset.sum_congr rfl fun i _ => Finset.sum_congr rfl fun n _ => Finset.sum_congr rfl fun k _ => by ring
  unfold var
  rw [e, hm]
  ring

theorem var_nonneg : 0 ≤ var Y Z := by
  unfold var
  refine div_nonneg ?_ (by norm_num)
  exact Finset.sum_nonneg fun i _ => Finset.sum_nonneg fun n _ => Finset.sum_nonneg fun k _ => mul_self_nonneg _

/-- The variance from the sums the kernel keeps. -/
theorem var_kernel : var Y Z = (20 * (∑ i, ∑ n, Y i n * Y i n) + 2 * (∑ i, ∑ n, Y i n * ∑ k, Z i n k) + ∑ i, ∑ n, ∑ k, Z i n k * Z i n k) / 163840
    - mean Y Z * mean Y Z := by
  rw [var_eq, squares_eq]

theorem mean_kernel : mean Y Z = (20 * (∑ i, ∑ n, Y i n) + ∑ i, ∑ n, ∑ k, Z i n k) / 163840 := by
  unfold mean; rw [total_eq]

/-! ## Extended reals -/

theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A monotone function of a maximum over a nonempty family is the maximum of the function's values. -/
theorem mono_max {ι : Type} [Fintype ι] [Nonempty ι] (F : EReal → EReal) (hF : Monotone F) (z : ι → EReal) :
    (Finset.univ.fold max ⊥ fun k => F (z k)) = F (Finset.univ.fold max ⊥ z) := by
  show Finset.univ.sup (fun k => F (z k)) = F (Finset.univ.sup z)
  apply le_antisymm
  · exact Finset.sup_le fun k hk => hF (Finset.le_sup (f := z) hk)
  · obtain ⟨k, hk, e⟩ := Finset.exists_mem_eq_sup Finset.univ Finset.univ_nonempty z
    rw [e]
    exact Finset.le_sup (f := fun k => F (z k)) hk

open Idealize.ShloMosaic

theorem c20 : Ideal.ofBits .f32 0x41A00000#32 = ((20 : ℝ) : EReal) := by
  simp [Ideal.ofBits, Ideal.ieee]
  rw [← EReal.coe_mul]
  norm_num

theorem c2 : Ideal.ofBits .f32 0x40000000#32 = ((2 : ℝ) : EReal) := by
  simp [Ideal.ofBits, Ideal.ieee]
  rw [← EReal.coe_mul]
  norm_num

theorem cN : Ideal.ofBits .f32 0x48200000#32 = ((163840 : ℝ) : EReal) := by
  simp [Ideal.ofBits, Ideal.ieee]
  rw [← EReal.coe_mul]
  norm_num

theorem cEps : ∃ e : ℝ, 0 < e ∧ Ideal.ofBits .f32 0x3727C5AC#32 = (e : EReal) := by
  simp [Ideal.ofBits, Ideal.ieee]
  exact ⟨10995116 * (2 ^ 40)⁻¹, by norm_num, (EReal.coe_mul _ _).symm⟩

/-- Division by a real that is not zero. -/
theorem div_coe (a s : ℝ) (hs : s ≠ 0) : Ideal.div (a : EReal) (s : EReal) = ((a / s : ℝ) : EReal) := by
  unfold Ideal.div
  rw [if_neg (by exact_mod_cast hs), ← EReal.coe_inv, ← EReal.coe_mul, div_eq_mul_inv]

theorem sqrt_coe (a : ℝ) (ha : 0 ≤ a) : Ideal.sqrt (a : EReal) = ((Real.sqrt a : ℝ) : EReal) := by
  unfold Ideal.sqrt
  show (if a < 0 then ⊥ else ((Real.sqrt a : ℝ) : EReal)) = _
  rw [if_neg (not_lt.2 ha)]

end Cert.Stats
-- ==== Proof.Infinite.lean ====
/- Extended reals that are not real numbers: how an infinite term passes through sums, quotients, squares and roots. -/
module

public import proofs.«01_k».proof.Proof.Stats

@[expose] public section

noncomputable section

namespace Cert.Infinite

open Idealize.ShloMosaic

/-- A real number among the extended reals. -/
def IsReal (u : EReal) : Prop := ∃ r : ℝ, u = (r : EReal)

/-- A sum of two is real only when both are. -/
theorem of_add {u v : EReal} (h : IsReal (u + v)) : IsReal u ∧ IsReal v := by
  obtain ⟨r, h⟩ := h
  induction u with
  | bot => simp at h
  | coe a =>
    induction v with
    | bot => simp at h
    | coe b => exact ⟨⟨a, rfl⟩, ⟨b, rfl⟩⟩
    | top => simp at h
  | top =>
    induction v with
    | bot => simp at h
    | coe b => simp at h
    | top => simp at h

/-- A finite sum is real only when each term is. -/
theorem of_sum {ι : Type} (s : Finset ι) (f : ι → EReal) (h : IsReal (∑ i ∈ s, f i)) : ∀ i ∈ s, IsReal (f i) := by
  classical
  induction s using Finset.induction_on with
  | empty => simp
  | insert a s ha ih =>
    rw [Finset.sum_insert ha] at h
    obtain ⟨h1, h2⟩ := of_add h
    intro i hi
    rcases Finset.mem_insert.1 hi with rfl | hi
    · exact h1
    · exact ih h2 i hi

/-- A difference is real only when what is taken away is. -/
theorem of_sub {u v : EReal} (h : IsReal (u - v)) : IsReal v := by
  rw [sub_eq_add_neg] at h
  obtain ⟨r, hr⟩ := (of_add h).2
  exact ⟨-r, by rw [EReal.coe_neg, ← hr, neg_neg]⟩

/-- A positive multiple is real only when the number is. -/
theorem of_mul {c : ℝ} (hc : 0 < c) {u : EReal} (h : IsReal ((c : EReal) * u)) : IsReal u := by
  obtain ⟨r, h⟩ := h
  induction u with
  | bot => rw [EReal.coe_mul_bot_of_pos hc] at h; simp at h
  | coe a => exact ⟨a, rfl⟩
  | top => rw [EReal.coe_mul_top_of_pos hc] at h; simp at h

theorem div_mul {c : ℝ} (hc : 0 < c) (u : EReal) : Ideal.div u (c : EReal) = ((c⁻¹ : ℝ) : EReal) * u := by
  unfold Ideal.div
  rw [if_neg (by exact_mod_cast hc.ne'), ← EReal.coe_inv, mul_comm]

/-- A quotient by a positive real is real only when the number is. -/
theorem of_div {c : ℝ} (hc : 0 < c) {u : EReal} (h : IsReal (Ideal.div u (c : EReal))) : IsReal u := by
  rw [div_mul hc] at h
  exact of_mul (inv_pos.2 hc) h

/-- The square of an infinity. -/
theorem mul_self {u : EReal} (h : ¬ IsReal u) : u * u = ⊤ := by
  induction u with
  | bot => exact EReal.bot_mul_bot
  | coe a => exact absurd ⟨a, rfl⟩ h
  | top => exact EReal.top_mul_top

/-- A sum of infinities. -/
theorem sum_top {ι : Type} [Fintype ι] [Nonempty ι] : (∑ _i : ι, (⊤ : EReal)) = ⊤ := by
  have key : ∀ s : Finset ι, s.Nonempty → (∑ _i ∈ s, (⊤ : EReal)) = ⊤ := fun s hs => by
    classical
    induction hs using Finset.Nonempty.cons_induction with
    | singleton a => simp
    | cons a s ha hs ih => rw [Finset.sum_cons, ih]; exact EReal.top_add_top
  exact key _ Finset.univ_nonempty

theorem div_top_real {c : ℝ} (hc : 0 < c) : Ideal.div ⊤ (c : EReal) = ⊤ := by
  rw [div_mul hc, EReal.coe_mul_top_of_pos (inv_pos.2 hc)]

theorem div_top (u : EReal) : Ideal.div u ⊤ = 0 := by
  unfold Ideal.div
  rw [if_neg (by simp), EReal.inv_top, mul_zero]

theorem div_bot (u : EReal) : Ideal.div u ⊥ = 0 := by
  unfold Ideal.div
  rw [if_neg (by simp), EReal.inv_bot, mul_zero]

/-- Nothing outweighs an infinity taken away. -/
theorem sub_top (u : EReal) : u - ⊤ = ⊥ := by
  rw [sub_eq_add_neg, EReal.neg_top, EReal.add_bot]

/-- A real factor distributes over a difference with a real. -/
theorem mul_sub_real (r a : ℝ) (u : EReal) : (r : EReal) * (u - (a : EReal)) = (r : EReal) * u + ((-(r * a) : ℝ) : EReal) := by
  induction u with
  | coe v => rw [← EReal.coe_sub, ← EReal.coe_mul, ← EReal.coe_mul, ← EReal.coe_add, mul_sub, sub_eq_add_neg]
  | bot =>
    rw [EReal.bot_sub]
    rcases lt_trichotomy r 0 with h | rfl | h
    · rw [EReal.coe_mul_bot_of_neg h, EReal.top_add_coe]
    · simp
    · rw [EReal.coe_mul_bot_of_pos h, EReal.bot_add]
  | top =>
    rw [EReal.top_sub_coe]
    rcases lt_trichotomy r 0 with h | rfl | h
    · rw [EReal.coe_mul_top_of_neg h, EReal.bot_add]
    · simp
    · rw [EReal.coe_mul_top_of_pos h, EReal.top_add_coe]

end Cert.Infinite
-- ==== Proof.Pre.lean ====
/- What the precondition says at each entry: the points and the weights of the neighbours are real numbers, the scale is not
   negative. -/
module

public import proofs.«01_k».proof.Proof.Gen.Pre_finite_nonneg
public import Idealize.ShloMosaic.Lib.Pointwise
public import Idealize.ShloMosaic.Lib.ReduceAll

@[expose] public section

namespace Cert.Pre

open Idealize.ShloMosaic Cert.Pre_finite_nonneg Cert.Pre_finite_nonneg.Gen

/-- The column of the weights that meets feature `f` of a neighbour. -/
def second (f : Fin 128) : Fin 256 := ⟨128 + f.val, by omega⟩

/-- A conjunction of two bits that is one has both bits one. -/
theorem and_one (a b : BitVec 1) (h : IntOp.andi a b = 1#1) : a = 1#1 ∧ b = 1#1 := by
  revert a b; decide

/-- A number whose absolute value is below infinity is real. -/
theorem real_of_lt (x : EReal) (h : (FloatOps.cmpf (F := Ideal) (φ := .f32) .olt (FloatOps.absf (F := Ideal) (φ := .f32) x) (Ideal.ofBits .f32 0x7F800000#32)) = 1#1) :
    ∃ r : ℝ, x = (r : EReal) := by
  rw [show Ideal.ofBits .f32 0x7F800000#32 = ⊤ by simp [Ideal.ofBits, Ideal.ieee]] at h
  induction x with
  | bot => exact absurd h (by simp [FloatOps.cmpf, FloatOps.absf, Ideal.cmp])
  | top => exact absurd h (by simp [FloatOps.cmpf, FloatOps.absf, Ideal.cmp])
  | coe r => exact ⟨r, rfl⟩

/-- A number the comparison finds at least zero is at least zero. -/
theorem nonneg_of_ge (x : EReal) (h : (FloatOps.cmpf (F := Ideal) (φ := .f32) .oge x (Ideal.ofBits .f32 0#32)) = 1#1) : 0 ≤ x := by
  rw [show Ideal.ofBits .f32 0#32 = 0 by simp [Ideal.ofBits, Ideal.ieee]] at h
  by_contra hn
  exact absurd h (by simp [FloatOps.cmpf, Ideal.cmp, hn])

/-- The precondition, entry by entry. -/
theorem facts (x : FVec Ideal S2x128x4096x1 .f32) (w : FVec Ideal S256x256 .f32) (b g t : FVec Ideal S256 .f32)
    (h : fn (F := Ideal) x w b g t = fun _ => 1#1) :
    (∀ i, ∃ r : ℝ, x i = (r : EReal)) ∧ (∀ (o : Fin 256) (f : Fin 128), ∃ r : ℝ, w (ix2 o (second f)) = (r : EReal))
      ∧ ∀ i, (0 : EReal) ≤ g i := by
  have h0 := congrFun h (Shape.Idx.first h_S_)
  dsimp only [fn] at h0
  obtain ⟨h1, hg⟩ := and_one _ _ h0
  obtain ⟨hx, hw⟩ := and_one _ _ h1
  refine ⟨fun i => ?_, fun o f => ?_, fun i => ?_⟩
  · exact real_of_lt _ (Host.reduce_andi_all _ _ _ _ _ hx i)
  · refine real_of_lt _ (Eq.trans ?_ (Host.reduce_andi_all _ _ _ _ _ hw (ix2 o f)))
    unfold second
    pointwise
  · exact nonneg_of_ge _ (Host.reduce_andi_all _ _ _ _ _ hg i)

end Cert.Pre
-- ==== Proof.Equation.lean ====
/- The kernel's function of the arguments is the reference's, where the points and the weights of the neighbours are real and
   the scale is not negative. A channel whose first product is infinite somewhere ends in the shift in both programs; in any
   other channel all is real and the equation is one over the reals. -/
module

public import proofs.«01_k».proof.Proof.KernelValue
public import proofs.«01_k».proof.Proof.RefValue
public import proofs.«01_k».proof.Proof.Infinite
public import proofs.«01_k».proof.Proof.Pre

@[expose] public section

set_option maxRecDepth 16384

noncomputable section

namespace Cert.Equation

open Idealize.ShloMosaic Cert.KernelIdeal Cert.KernelHost Cert.KernelValue Cert.Arrays Cert.Rank Cert.Stats Cert.Infinite

variable (x : S2x128x4096x1.Idx → EReal) (w : S256x256.Idx → EReal) (b g t : S256.Idx → EReal)
  (X : S2x128x4096x1.Idx → ℝ) (hX : ∀ i, x i = (X i : EReal))
  (A : Fin 256 → Fin 128 → ℝ) (hA : ∀ o f, w (ix2 o (Pre.second f)) = (A o f : EReal))

/-- The two programs measure the same distances. -/
theorem dist_eq (i : Fin 2) : K2.distX (pts x) i = RefValue.dist x i := by
  funext n p
  unfold K2.distX RefValue.dist pts
  refine congrArg₂ (· + ·) (congrArg₂ (· - ·) rfl (congrArg₂ (· * ·) rfl ?_)) rfl
  exact Finset.sum_congr rfl fun f _ => mul_comm _ _

/-- So they pick the same neighbours. -/
theorem near_eq : K2.near (pts x) = RefValue.near x := by
  funext i n k
  unfold K2.near RefValue.near
  rw [dist_eq]

include hX in
/-- The distances of real points are below infinity. -/
theorem dist_lt (i : Fin 2) (n p : Fin 4096) : K2.distX (pts x) i n p < ⊤ := by
  unfold K2.distX pts
  simp only [hX, c2, ← EReal.coe_mul, coe_sum, ← EReal.coe_sub, ← EReal.coe_add]
  exact EReal.coe_lt_top _

/-- The second product, over the reals. -/
def Q (o : Fin 256) (i : Fin 2) (n : Fin 4096) : ℝ := ∑ f : Fin 128, X (ix4 i f n 0) * A o f

/-- The second product at the neighbours. -/
def Z (o : Fin 256) (i : Fin 2) (n : Fin 4096) (k : Fin 20) : ℝ := Q X A o i (RefValue.near x i n k)

include hX hA in
theorem z_coe (i : Fin 2) (n : Fin 4096) (o : Fin 256) : zArr x w (ix3 i n o) = (Q X A o i n : EReal) := by
  show (∑ f : Fin 128, x (ix4 i f n 0) * w (ix2 o (Pre.second f))) = _
  simp only [hX, hA, ← EReal.coe_mul, coe_sum]
  rfl

include hX hA in
theorem sum_coe (i : Fin 2) (n : Fin 4096) (o : Fin 256) :
    sumArr (zArr x w) (K2.near (pts x)) (ix3 i n o) = ((∑ k, Z x X A o i n k : ℝ) : EReal) := by
  rw [near_eq]
  show (∑ k, zArr x w (ix3 i (RefValue.near x i n k) o)) = _
  simp only [z_coe x w X hX A hA, coe_sum]
  rfl

include hX hA in
theorem sq_coe (i : Fin 2) (n : Fin 4096) (o : Fin 256) :
    sqArr (zArr x w) (K2.near (pts x)) (ix3 i n o) = ((∑ k, Z x X A o i n k * Z x X A o i n k : ℝ) : EReal) := by
  rw [near_eq]
  show (∑ k, zArr x w (ix3 i (RefValue.near x i n k) o) * zArr x w (ix3 i (RefValue.near x i n k) o)) = _
  simp only [z_coe x w X hX A hA, ← EReal.coe_mul, coe_sum]
  rfl

include hX hA in
/-- The reference's layer is the two products' sum. -/
theorem layer_eq (i : Fin 2) (o : Fin 256) (n : Fin 4096) (k : Fin 20) :
    RefValue.layer x w b (ix4 i o n k) = yArr x w b (ix3 i n o) + (Z x X A o i n k : EReal) := by
  rw [RefValue.layer_apply]
  show (∑ f : Fin 128, x (ix4 i f n 0) * w (ix2 o ⟨f.val, by omega⟩))
      + (∑ f : Fin 128, (x (ix4 i f (RefValue.near x i n k) 0) - x (ix4 i f n 0)) * w (ix2 o (Pre.second f))) + b (ix1 o)
    = (∑ f : Fin 128, x (ix4 i f n 0) * (w (ix2 o ⟨f.val, by omega⟩) - w (ix2 o (Pre.second f)))) + b (ix1 o) + _
  simp only [hX, hA, mul_sub_real, Finset.sum_add_distrib, ← EReal.coe_sub, ← EReal.coe_mul, coe_sum]
  have e : (∑ f : Fin 128, (X (ix4 i f (RefValue.near x i n k) 0) - X (ix4 i f n 0)) * A o f)
      = (∑ f : Fin 128, -(X (ix4 i f n 0) * A o f)) + Z x X A o i n k := by
    unfold Z Q
    rw [← Finset.sum_add_distrib]
    exact Finset.sum_congr rfl fun f _ => by ring
  rw [e, EReal.coe_add]
  abel

/-- The affine map, rectified, that both programs end with; its slope `s` is real and not negative. -/
def last (y m s : ℝ) (g t u : EReal) : EReal := max (((y : EReal) + u - (m : EReal)) * (s : EReal) * g + t) 0

theorem last_mono (y m s : ℝ) (hs : 0 ≤ s) (g t : EReal) (hg : 0 ≤ g) : Monotone (last y m s g t) := fun u v h => by
  unfold last
  refine max_le_max (add_le_add ?_ le_rfl) le_rfl
  refine mul_le_mul_of_nonneg_right (mul_le_mul_of_nonneg_right ?_ (EReal.coe_nonneg.2 hs)) hg
  exact EReal.sub_le_sub (add_le_add le_rfl h) le_rfl

/-! ## A channel where the first product is real -/

section

variable (o : Fin 256) (Y : Fin 2 → Fin 4096 → ℝ) (hY : ∀ i n, yArr x w b (ix3 i n o) = (Y i n : EReal))

include hX hA hY in
/-- The kernel's mean of the channel. -/
theorem mean_coe : meanArr (yArr x w b) (sumArr (zArr x w) (K2.near (pts x))) (ix1 o) = ((mean Y (Z x X A o) : ℝ) : EReal) := by
  unfold meanArr
  show Ideal.div (_ * (∑ i : Fin 2, ∑ n : Fin 4096, yArr x w b (ix3 i n o)) + ∑ i : Fin 2, ∑ n : Fin 4096, sumArr (zArr x w) (K2.near (pts x)) (ix3 i n o)) _ = _
  simp only [hY, sum_coe x w X hX A hA, c20, cN, coe_sum, ← EReal.coe_mul, ← EReal.coe_add]
  rw [div_coe _ _ (by norm_num), ← mean_kernel]

/-- The reciprocal of the channel's deviation. -/
def inv (e : ℝ) : ℝ := 1 / Real.sqrt (var Y (Z x X A o) + e)

include hX hA hY in
/-- The kernel's inverse deviation of the channel. -/
theorem inv_coe (e : ℝ) (he : 0 < e) (hc : Ideal.ofBits .f32 0x3727C5AC#32 = (e : EReal)) :
    invArr (yArr x w b) (sumArr (zArr x w) (K2.near (pts x))) (sqArr (zArr x w) (K2.near (pts x))) (ix1 o) = ((inv x X A o Y e : ℝ) : EReal) := by
  have hv : 0 < var Y (Z x X A o) + e := add_pos_of_nonneg_of_pos (var_nonneg _ _) he
  unfold invArr
  rw [mean_coe x w b X hX A hA o Y hY]
  show Ideal.div 1 (Ideal.sqrt (Ideal.div (_ * (∑ i : Fin 2, ∑ n : Fin 4096, yArr x w b (ix3 i n o) * yArr x w b (ix3 i n o))
    + _ * (∑ i : Fin 2, ∑ n : Fin 4096, yArr x w b (ix3 i n o) * sumArr (zArr x w) (K2.near (pts x)) (ix3 i n o))
    + ∑ i : Fin 2, ∑ n : Fin 4096, sqArr (zArr x w) (K2.near (pts x)) (ix3 i n o)) _ - _ + _)) = _
  simp only [hY, sum_coe x w X hX A hA, sq_coe x w X hX A hA, c20, c2, cN, hc, coe_sum, ← EReal.coe_mul, ← EReal.coe_add]
  rw [div_coe _ _ (by norm_num), ← EReal.coe_sub, ← var_kernel, ← EReal.coe_add, sqrt_coe _ hv.le, ← EReal.coe_one,
    div_coe _ _ (Real.sqrt_pos.2 hv).ne']
  rfl

include hX hA hY in
theorem layer_coe (i : Fin 2) (n : Fin 4096) (k : Fin 20) :
    RefValue.layer x w b (ix4 i o n k) = ((Y i n + Z x X A o i n k : ℝ) : EReal) := by
  rw [layer_eq x w b X hX A hA, hY, ← EReal.coe_add]

include hX hA hY in
/-- The reference's mean of the channel. -/
theorem avg_coe : RefValue.avg (RefValue.layer x w b) (ix4 0 o 0 0) = ((mean Y (Z x X A o) : ℝ) : EReal) := by
  rw [RefValue.avg_apply]
  simp only [layer_coe x w b X hX A hA o Y hY, cN, coe_sum]
  rw [div_coe _ _ (by norm_num)]
  rfl

include hX hA hY in
theorem dev_coe (i : Fin 2) (n : Fin 4096) (k : Fin 20) :
    RefValue.dev (RefValue.layer x w b) (ix4 i o n k) = ((Y i n + Z x X A o i n k - mean Y (Z x X A o) : ℝ) : EReal) := by
  rw [RefValue.dev_apply, layer_coe x w b X hX A hA o Y hY, avg_coe x w b X hX A hA o Y hY, ← EReal.coe_sub]

include hX hA hY in
/-- The reference's variance of the channel. -/
theorem var_coe : RefValue.avg (mulf (F := Ideal) (φ := .f32) (RefValue.dev (RefValue.layer x w b)) (RefValue.dev (RefValue.layer x w b))) (ix4 0 o 0 0)
    = ((var Y (Z x X A o) : ℝ) : EReal) := by
  rw [RefValue.avg_apply]
  pointwise
  simp only [dev_coe x w b X hX A hA o Y hY, cN, ← EReal.coe_mul, coe_sum]
  rw [div_coe _ _ (by norm_num)]
  rfl

/-- The kernel's result at an entry, from the arrays before it. -/
theorem kOut_apply (i : Fin 2) (o : Fin 256) (n : Fin 4096) : kOut x w b g t (ix3 i n o)
    = max ((yArr x w b (ix3 i n o) + maxArr (zArr x w) (K2.near (pts x)) (ix3 i n o)
      - meanArr (yArr x w b) (sumArr (zArr x w) (K2.near (pts x))) (ix1 o))
      * invArr (yArr x w b) (sumArr (zArr x w) (K2.near (pts x))) (sqArr (zArr x w) (K2.near (pts x))) (ix1 o) * g (ix1 o) + t (ix1 o)) 0 :=
  rfl

include hX hA hY in
/-- The kernel's result is the reference's at every entry of the channel. -/
theorem real_eq (hg : ∀ i, 0 ≤ g i) (i : Fin 2) (n : Fin 4096) :
    kOut x w b g t (ix3 i n o) = RefValue.top (RefValue.norm (RefValue.layer x w b) g t) (ix4 i o n 0) := by
  obtain ⟨e, he, hc⟩ := cEps
  have hv : 0 < var Y (Z x X A o) + e := add_pos_of_nonneg_of_pos (var_nonneg _ _) he
  have hs : 0 ≤ inv x X A o Y e := div_nonneg zero_le_one (Real.sqrt_nonneg _)
  rw [RefValue.top_apply]
  have hr : ∀ k, max (RefValue.norm (RefValue.layer x w b) g t (ix4 i o n k)) 0
      = last (Y i n) (mean Y (Z x X A o)) (inv x X A o Y e) (g (ix1 o)) (t (ix1 o)) (Z x X A o i n k : EReal) := fun k => by
    rw [RefValue.norm_apply, dev_coe x w b X hX A hA o Y hY, var_coe x w b X hX A hA o Y hY, hc, ← EReal.coe_add, sqrt_coe _ hv.le,
      div_coe _ _ (Real.sqrt_pos.2 hv).ne']
    unfold last inv
    rw [← EReal.coe_add, ← EReal.coe_sub, ← EReal.coe_mul, mul_one_div]
  simp only [hr]
  rw [mono_max _ (last_mono _ _ _ hs _ _ (hg _)), kOut_apply, hY, mean_coe x w b X hX A hA o Y hY, inv_coe x w b X hX A hA o Y hY e he hc, near_eq]
  have hm : maxArr (zArr x w) (RefValue.near x) (ix3 i n o) = Finset.univ.fold max ⊥ fun k => (Z x X A o i n k : EReal) := by
    show (Finset.univ.fold max ⊥ fun k => zArr x w (ix3 i (RefValue.near x i n k) o)) = _
    simp only [z_coe x w X hX A hA]
    rfl
  rw [hm]
  rfl

end

/-! ## A channel where the first product is infinite somewhere -/

section

variable (o : Fin 256) (i₀ : Fin 2) (n₀ : Fin 4096) (hy : ¬ IsReal (yArr x w b (ix3 i₀ n₀ o)))

include hy in
/-- The kernel's mean of the channel is infinite. -/
theorem mean_inf (s : S2x4096x256.Idx → EReal) : ¬ IsReal (meanArr (yArr x w b) s (ix1 o)) := fun h => by
  unfold meanArr at h
  rw [cN, c20] at h
  have h1 := of_mul (by norm_num) (of_add (of_div (by norm_num) h)).1
  exact hy (of_sum _ _ (of_sum _ _ h1 i₀ (Finset.mem_univ _)) n₀ (Finset.mem_univ _))

include hy in
/-- So its inverse deviation is nothing. -/
theorem inv_inf (s s2 : S2x4096x256.Idx → EReal) : invArr (yArr x w b) s s2 (ix1 o) = 0 := by
  unfold invArr
  rw [mul_self (mean_inf x w b o i₀ n₀ hy s), sub_top, EReal.bot_add]
  exact div_bot 1

include hy hX hA in
/-- The reference's mean of the channel is infinite. -/
theorem avg_inf : ¬ IsReal (RefValue.avg (RefValue.layer x w b) (ix4 0 o 0 0)) := fun h => by
  rw [RefValue.avg_apply, cN] at h
  have h1 := of_sum _ _ (of_sum _ _ (of_sum _ _ (of_div (by norm_num) h) i₀ (Finset.mem_univ _)) n₀ (Finset.mem_univ _)) 0 (Finset.mem_univ _)
  rw [layer_eq x w b X hX A hA] at h1
  exact hy (of_add h1).1

include hy hX hA in
/-- So its variance is infinite. -/
theorem var_inf : RefValue.avg (mulf (F := Ideal) (φ := .f32) (RefValue.dev (RefValue.layer x w b)) (RefValue.dev (RefValue.layer x w b))) (ix4 0 o 0 0)
    = ⊤ := by
  rw [RefValue.avg_apply]
  pointwise
  have hd : ∀ i n k, RefValue.dev (RefValue.layer x w b) (ix4 i o n k) * RefValue.dev (RefValue.layer x w b) (ix4 i o n k) = (⊤ : EReal) :=
    fun i n k => mul_self fun h => avg_inf x w b X hX A hA o i₀ n₀ hy (of_sub (by rw [RefValue.dev_apply] at h; exact h))
  simp only [hd, sum_top, cN]
  exact div_top_real (by norm_num)

include hy hX hA in
/-- Both results are the shift, rectified, at every entry of the channel. -/
theorem inf_eq (i : Fin 2) (n : Fin 4096) :
    kOut x w b g t (ix3 i n o) = RefValue.top (RefValue.norm (RefValue.layer x w b) g t) (ix4 i o n 0) := by
  obtain ⟨e, he, hc⟩ := cEps
  have hr : ∀ k, max (RefValue.norm (RefValue.layer x w b) g t (ix4 i o n k)) 0 = max (t (ix1 o)) 0 := fun k => by
    rw [RefValue.norm_apply, var_inf x w b X hX A hA o i₀ n₀ hy, hc, EReal.top_add_coe]
    rw [show Ideal.sqrt ⊤ = ⊤ from rfl, div_top, zero_mul, zero_add]
  rw [RefValue.top_apply, kOut_apply, inv_inf x w b o i₀ n₀ hy, mul_zero, zero_mul, zero_add]
  simp only [hr]
  exact (mono_max (fun _ => max (t (ix1 o)) 0) (fun _ _ _ => le_rfl) (fun _ : Fin 20 => ⊥)).symm

end

include hX hA in
/-- The kernel's result is the reference's at every entry. -/
theorem result_eq (hg : ∀ i, 0 ≤ g i) (i : Fin 2) (o : Fin 256) (n : Fin 4096) :
    kOut x w b g t (ix3 i n o) = RefValue.top (RefValue.norm (RefValue.layer x w b) g t) (ix4 i o n 0) := by
  by_cases hy : ∀ i n, IsReal (yArr x w b (ix3 i n o))
  · choose Y hY using hy
    exact real_eq x w b g t X hX A hA o Y hY hg i n
  · simp only [not_forall] at hy
    obtain ⟨i₀, n₀, hy⟩ := hy
    exact inf_eq x w b g t X hX A hA o i₀ n₀ hy i n

end Cert.Equation
-- ==== Proof.Algebraic.lean ====
/- The value claim: from memories that agree on the arguments, and where the precondition holds, the kernel and the
   reference end with equal results. -/
module

public import proofs.«01_k».proof.Defs
public import proofs.«01_k».proof.Proof.KernelRun
public import proofs.«01_k».proof.Proof.Equation
public import proofs.«01_k».proof.Proof.Pre

@[expose] public section

set_option maxRecDepth 16384

noncomputable section

namespace Cert.Algebraic

open Idealize.ShloMosaic Idealize.SL.Sem

/-- The value the kernel leaves is the reference's function of the arguments. -/
theorem value (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (hp : Cert.Pre_finite_nonneg.fn (F := Ideal) (KernelValue.argX m c) (KernelValue.argW m c) (KernelValue.argB m c) (KernelValue.argG m c)
      (KernelValue.argT m c) = fun _ => 1#1) :
    (Cert.KernelIdeal.Gen.W7 m ρ c (Proc.devRef .tc Cert.KernelIdeal.main_v23) : Cert.KernelIdeal.S2x256x4096x1.Idx → EReal)
      = RefValue.top (RefValue.norm (RefValue.layer (KernelValue.argX m c) (KernelValue.argW m c) (KernelValue.argB m c))
          (KernelValue.argG m c) (KernelValue.argT m c)) := by
  obtain ⟨hx, hw, hg⟩ := Pre.facts _ _ _ _ _ hp
  choose X hX using hx
  choose A hA using hw
  funext j
  have hj : j = ix4 (j 0) (j 1) (j 2) (0 : Fin 1) := by
    funext a
    match a with
    | 0 => rfl
    | 1 => rfl
    | 2 => rfl
    | 3 => exact Subsingleton.elim (α := Fin 1) _ _
  rw [hj]
  exact (KernelValue.w7_out m ρ c (fun i n p => Equation.dist_lt _ X hX i n p) (j 0) (j 1) (j 2)).trans
    (Equation.result_eq _ _ _ _ _ X hX A hA hg (j 0) (j 1) (j 2))

/-- The kernel and the reference, over the extended reals, end with equal results. -/
theorem algebraic : Cert.algebraic_KernelIdeal_ReferenceIdeal_pre_finite_nonneg := by
  intro m ρ m' ρ' hp ha
  refine ⟨fun c => Cert.KernelIdeal.Gen.W7 m ρ c (Proc.devRef .tc Cert.KernelIdeal.main_v23),
    (θ_run _ _ _).mono (fun _ h => h.1) (KernelRun.run m ρ),
    (θ_run _ _ _).mono (fun r h c => ⟨(h c).1.trans ?_, (h c).2⟩) (Cert.ReferenceIdeal.Value.run m' ρ')⟩
  obtain ⟨h0, h1, h2, h3, h4⟩ := ha c
  rw [RefValue.res_eq, h0, h1, h2, h3, h4]
  exact (value m ρ c (hp c)).symm

end Cert.Algebraic

end
-- ==== Proof.lean ====
/- The claim assembled from the modules under Proof/. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_nonneg
public import proofs.«01_k».proof.Proof.Frames
public import proofs.«01_k».proof.Proof.Algebraic

@[expose] public section

noncomputable section

namespace Cert.Proof

open Idealize.ShloMosaic Idealize.SL.Sem

/-- Everything the certificate claims. -/
theorem claim : Cert.Claim := ⟨Cert.Kernel.Gen.facts, Cert.KernelIdeal.Gen.facts, Cert.ReferenceIdeal.Gen.facts,
  Cert.Pre_finite_nonneg.Gen.facts, Cert.Frames.kernel, Cert.Frames.kernelIdeal, Cert.Frames.kernelIdeal_pre,
  Cert.Frames.reference, Cert.Frames.reference_pre, trivial, Cert.Algebraic.algebraic⟩

end Cert.Proof

end
